-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18_0) = v0 c
          ∧ r.2.mem ((c.tc : Thread Cert.ReferenceIdeal.nD Cert.ReferenceIdeal.τ).loc Cert.ReferenceIdeal.main_v18_1) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x6144x9856 : Shape := ⟨3, ![1, 6144, 9856]⟩
abbrev S9856x12288 : Shape := ⟨2, ![9856, 12288]⟩
abbrev S12288 : Shape := ⟨1, ![12288]⟩
abbrev S256x256 : Shape := ⟨2, ![256, 256]⟩
abbrev S6144x9856 : Shape := ⟨2, ![6144, 9856]⟩
abbrev S6144x1 : Shape := ⟨2, ![6144, 1]⟩
abbrev S256x9856 : Shape := ⟨2, ![256, 9856]⟩
abbrev S256x1 : Shape := ⟨2, ![256, 1]⟩
abbrev S256x128 : Shape := ⟨2, ![256, 128]⟩
abbrev S128x128 : Shape := ⟨2, ![128, 128]⟩
abbrev S256 : Shape := ⟨1, ![256]⟩
abbrev S1x12288 : Shape := ⟨2, ![1, 12288]⟩
abbrev S6144x12288 : Shape := ⟨2, ![6144, 12288]⟩
abbrev S1024x9856 : Shape := ⟨2, ![1024, 9856]⟩
abbrev S9856x1024 : Shape := ⟨2, ![9856, 1024]⟩
abbrev S1024x1 : Shape := ⟨2, ![1024, 1]⟩
abbrev S1x1024 : Shape := ⟨2, ![1, 1024]⟩
abbrev S1024x1024 : Shape := ⟨2, ![1024, 1024]⟩
abbrev S512x512 : Shape := ⟨2, ![512, 512]⟩
abbrev S512x4864 : Shape := ⟨2, ![512, 4864]⟩
abbrev S4864x512 : Shape := ⟨2, ![4864, 512]⟩
abbrev S512x128 : Shape := ⟨2, ![512, 128]⟩
abbrev S128x512 : Shape := ⟨2, ![128, 512]⟩
abbrev S512x1 : Shape := ⟨2, ![512, 1]⟩
abbrev S1x512 : Shape := ⟨2, ![1, 512]⟩
abbrev S1x6144x12288 : Shape := ⟨3, ![1, 6144, 12288]⟩
abbrev S1x6144x1 : Shape := ⟨3, ![1, 6144, 1]⟩

abbrev nBuf : Space → Nat
  | .hbm => 12
  | .vmem => 22
  | .smem => 0
  | _ => 0

abbrev bufTy : (tb : Table) → Fin (tcTables nBuf tb) → BufTy
  | .hbm, ⟨0, _⟩ => ⟨S1x6144x9856, .bf16⟩
  | .hbm, ⟨1, _⟩ => ⟨S9856x12288, .i8⟩
  | .hbm, ⟨2, _⟩ => ⟨S12288, .f32⟩
  | .hbm, ⟨3, _⟩ => ⟨S256x256, .bf16⟩
  | .hbm, ⟨4, _⟩ => ⟨S6144x9856, .bf16⟩
  | .hbm, ⟨5, _⟩ => ⟨S6144x9856, .i8⟩
  | .hbm, ⟨6, _⟩ => ⟨S6144x1, .f32⟩
  | .hbm, ⟨7, _⟩ => ⟨S1x12288, .f32⟩
  | .hbm, ⟨8, _⟩ => ⟨S6144x12288, .bf16⟩
  | .hbm, ⟨9, _⟩ => ⟨S1x6144x12288, .bf16⟩
  | .hbm, ⟨10, _⟩ => ⟨S1x6144x9856, .i8⟩
  | .hbm, ⟨11, _⟩ => ⟨S1x6144x1, .f32⟩
  | .local _ .vmem, ⟨0, _⟩ => ⟨S256x9856, .bf16⟩
  | .local _ .vmem, ⟨1, _⟩ => ⟨S256x9856, .bf16⟩
  | .local _ .vmem, ⟨2, _⟩ => ⟨S256x256, .bf16⟩
  | .local _ .vmem, ⟨3, _⟩ => ⟨S256x9856, .i8⟩
  | .local _ .vmem, ⟨4, _⟩ => ⟨S256x9856, .i8⟩
  | .local _ .vmem, ⟨5, _⟩ => ⟨S256x1, .f32⟩
  | .local _ .vmem, ⟨6, _⟩ => ⟨S256x1, .f32⟩
  | .local _ .vmem, ⟨7, _⟩ => ⟨S256x9856, .f32⟩
  | .local _ .vmem, ⟨8, _⟩ => ⟨S1024x9856, .i8⟩
  | .local _ .vmem, ⟨9, _⟩ => ⟨S1024x9856, .i8⟩
  | .local _ .vmem, ⟨10, _⟩ => ⟨S9856x1024, .i8⟩
  | .local _ .vmem, ⟨11, _⟩ => ⟨S9856x1024, .i8⟩
  | .local _ .vmem, ⟨12, _⟩ => ⟨S1024x1, .f32⟩
  | .local _ .vmem, ⟨13, _⟩ => ⟨S1024x1, .f32⟩
  | .local _ .vmem, ⟨14, _⟩ => ⟨S1x1024, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | _, _ => ⟨S1x6144x9856, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc1_scratch3 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x9856 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x9856 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![6, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x9856 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S9856x1024 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S1x6144x9856 : Shape := ⟨3, ![1, 6144, 9856]⟩
abbrev S9856x12288 : Shape := ⟨2, ![9856, 12288]⟩
abbrev S12288 : Shape := ⟨1, ![12288]⟩
abbrev S128x128 : Shape := ⟨2, ![128, 128]⟩
abbrev S_ : Shape := ⟨0, ![]⟩
abbrev S1x6144x77x128 : Shape := ⟨4, ![1, 6144, 77, 128]⟩
abbrev S1x6144 : Shape := ⟨2, ![1, 6144]⟩
abbrev S1x6144x1 : Shape := ⟨3, ![1, 6144, 1]⟩
abbrev S1x6144x12288 : Shape := ⟨3, ![1, 6144, 12288]⟩
abbrev S1x1x12288 : Shape := ⟨3, ![1, 1, 12288]⟩

abbrev nBuf : Space → Nat
  | .hbm => 37
  | .vmem => 6
  | .smem => 0
  | _ => 0

abbrev bufTy : (tb : Table) → Fin (tcTables nBuf tb) → BufTy
  | .hbm, ⟨0, _⟩ => ⟨S1x6144x9856, .bf16⟩
  | .hbm, ⟨1, _⟩ => ⟨S9856x12288, .i8⟩
  | .hbm, ⟨2, _⟩ => ⟨S12288, .f32⟩
  | .hbm, ⟨3, _⟩ => ⟨S128x128, .f32⟩
  | .hbm, ⟨4, _⟩ => ⟨S_, .f32⟩
  | .hbm, ⟨5, _⟩ => ⟨S128x128, .f32⟩
  | .hbm, ⟨6, _⟩ => ⟨S128x128, .f32⟩
  | .hbm, ⟨7, _⟩ => ⟨S1x6144x9856, .f32⟩
  | .hbm, ⟨8, _⟩ => ⟨S1x6144x77x128, .f32⟩
  | .hbm, ⟨9, _⟩ => ⟨S1x6144x77x128, .f32⟩
  | .hbm, ⟨10, _⟩ => ⟨S1x6144x9856, .f32⟩
  | .hbm, ⟨11, _⟩ => ⟨S1x6144x9856, .f32⟩
  | .hbm, ⟨12, _⟩ => ⟨S_, .f32⟩
  | .hbm, ⟨13, _⟩ => ⟨S1x6144, .f32⟩
  | .hbm, ⟨14, _⟩ => ⟨S1x6144x1, .f32⟩
  | .hbm, ⟨15, _⟩ => ⟨S_, .f32⟩
  | .hbm, ⟨16, _⟩ => ⟨S1x6144x1, .f32⟩
  | .hbm, ⟨17, _⟩ => ⟨S1x6144x1, .i1⟩
  | .hbm, ⟨18, _⟩ => ⟨S_, .f32⟩
  | .hbm, ⟨19, _⟩ => ⟨S1x6144x1, .f32⟩
  | .hbm, ⟨20, _⟩ => ⟨S1x6144x1, .f32⟩
  | .hbm, ⟨21, _⟩ => ⟨S_, .f32⟩
  | .hbm, ⟨22, _⟩ => ⟨S1x6144x1, .f32⟩
  | .hbm, ⟨23, _⟩ => ⟨S1x6144x1, .f32⟩
  | .hbm, ⟨24, _⟩ => ⟨S1x6144x9856, .f32⟩
  | .hbm, ⟨25, _⟩ => ⟨S1x6144x9856, .f32⟩
  | .hbm, ⟨26, _⟩ => ⟨S1x6144x9856, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1x6144x9856, .f32⟩
  | .hbm, ⟨31, _⟩ => ⟨S1x6144x9856, .f32⟩
  | .hbm, ⟨32, _⟩ => ⟨S_, .f32⟩
  | .hbm, ⟨33, _⟩ => ⟨S1x6144x9856, .f32⟩
  | .hbm, ⟨34, _⟩ => ⟨S1x6144x9856, .f32⟩
  | .hbm, ⟨35, _⟩ => ⟨S1x6144x12288, .bf16⟩
  | .hbm, ⟨36, _⟩ => ⟨S1x6144x9856, .i8⟩
  | .local _ .vmem, ⟨0, _⟩ => ⟨S1x6144x9856, .f32⟩
  | .local _ .vmem, ⟨1, _⟩ => ⟨S9856x12288, .i8⟩
  | .local _ .vmem, ⟨2, _⟩ => ⟨S1x6144x1, .f32⟩
  | .local _ .vmem, ⟨3, _⟩ => ⟨S12288, .f32⟩
  | .local _ .vmem, ⟨4, _⟩ => ⟨S1x6144x12288, .bf16⟩
  | .local _ .vmem, ⟨5, _⟩ => ⟨S1x6144x9856, .i8⟩
  | _, _ => ⟨S1x6144x9856, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_cst_6 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v17 : Ref sig .tc := ⟨.hbm, 34, rfl⟩
abbrev main_v18_0 : Ref sig .tc := ⟨.hbm, 35, rfl⟩
abbrev main_v18_1 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x6144x9856 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9856x12288 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6144x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144x12288 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6144x9856 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Run.lean ====
/- The kernel's run: from any memory it ends, with each result array at the contents of the last segment boundary. -/
module

public import proofs.«01_k».proof.Proof.Gen.KernelIdeal.Frame

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the launch theorem are found by unifying its conclusion with this one
set_option backward.isDefEq.respectTransparency.types false in
/-- The run of the whole program: it ends, each of the three result arrays holds the last boundary's contents `W5`
    of its reference, and the argument arrays are as launched. -/
theorem run : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_v5) = W5 m ρ c (Proc.devRef .tc main_v5)
      ∧ r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v4 (by decide)), h c _ (mem_uc main_v5 (by decide)), h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.Proof.Run

end
-- ==== Proof.RealMatrix.lean ====
/- Arrays of extended reals that hold finite numbers, as real matrices: what the arithmetic of the second kernel computes on them. -/
module

public import Idealize.ShloMosaic.Lib.MatmulPlain
public import Idealize.ShloMosaic.Lib.Pipeline.Value
public import Idealize.ShloMosaic.Lib.ValueIdx
public import Mathlib.LinearAlgebra.Matrix.Notation
public import Mathlib.Tactic.Abel

@[expose] public section

noncomputable section

namespace Cert.Proof.RealMatrix

open Idealize.ShloMosaic Idealize.ShloMosaic.ValueIdx
open scoped BigOperators

variable {m n k : ℕ} {φ ψ : FTy}

/-- The array `v` holds the real matrix `M`. -/
def Is (v : FVec Ideal ⟨2, ![m, n]⟩ φ) (M : Matrix (Fin m) (Fin n) ℝ) : Prop :=
  ∀ r c, v (ix2 r c) = ((M r c : ℝ) : EReal)

/-- The signed integers of an int8 array, as a real matrix. -/
def ints (v : IVec ⟨2, ![m, n]⟩ 8) : Matrix (Fin m) (Fin n) ℝ := fun r c => ((v (ix2 r c)).toInt : ℝ)

/-- Converting an int8 array to floats gives its integers exactly. -/
theorem Is.sitofp (v : IVec ⟨2, ![m, n]⟩ 8) : Is (sitofp (F := Ideal) φ v) (ints v) := fun _ _ => rfl

/-- The sum of two arrays that hold real matrices holds the sum. -/
theorem Is.addf {v w : FVec Ideal ⟨2, ![m, n]⟩ φ} {M N : Matrix (Fin m) (Fin n) ℝ} (hv : Is v M) (hw : Is w N) :
    Is (addf v w) (M + N) := fun r c => by
  show v (ix2 r c) + w (ix2 r c) = _
  rw [hv, hw, ← EReal.coe_add]; rfl

/-- The difference of two arrays that hold real matrices holds the difference. -/
theorem Is.subf {v w : FVec Ideal ⟨2, ![m, n]⟩ φ} {M N : Matrix (Fin m) (Fin n) ℝ} (hv : Is v M) (hw : Is w N) :
    Is (subf v w) (M - N) := fun r c => by
  show v (ix2 r c) - w (ix2 r c) = _
  rw [hv, hw, ← EReal.coe_sub]; rfl

/-- The zero word, splatted, holds the zero matrix. -/
theorem Is.zero : Is (broadcast ⟨2, ![m, n]⟩ (Scalar.ofBits (F := Ideal) .f32 0x00000000#32)) 0 := fun r c => by
  show Ideal.ofBits .f32 0x00000000#32 = _
  rw [Ideal.ofBits_zero_f32]; rfl

/-- A reshape to the same shape changes nothing. -/
theorem Is.shapeCast {v : FVec Ideal ⟨2, ![m, n]⟩ φ} {M : Matrix (Fin m) (Fin n) ℝ} (hv : Is v M) (h) :
    Is (φ := φ) (shapeCast ⟨2, ![m, n]⟩ v h) M := by rw [shapeCast_self]; exact hv

/-- A finite sum of reals, read in the extended reals, is the sum of the terms read there. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The matrix unit's product of two arrays that hold real matrices, onto zero, holds the product. -/
theorem Is.matmul {v : FVec Ideal ⟨2, ![m, k]⟩ φ} {w : FVec Ideal ⟨2, ![k, n]⟩ ψ} {M : Matrix (Fin m) (Fin k) ℝ}
    {N : Matrix (Fin k) (Fin n) ℝ} (hv : Is v M) (hw : Is w N) :
    Is (FloatOps.matmul (DotDims.plain m k n) none v w (constant (F := Ideal) ⟨2, ![m, n]⟩ .f32 0x00000000#32)) (M * N) := fun r c => by
  rw [Ideal.matmul_plain_apply]
  show Ideal.ofBits .f32 0x00000000#32 + _ = _
  rw [Ideal.ofBits_zero_f32, zero_add, Matrix.mul_apply, coe_sum]
  exact Finset.sum_congr rfl fun i _ => by rw [hv, hw, EReal.coe_mul]

/-- The rescaled product: an array that holds a real matrix, times a column of row scales, times a row of column scales. -/
theorem scaled {v : FVec Ideal ⟨2, ![m, n]⟩ .f32} {M : Matrix (Fin m) (Fin n) ℝ} (hv : Is v M)
    (xs : FVec Ideal ⟨2, ![m, 1]⟩ .f32) (ws : FVec Ideal ⟨2, ![1, n]⟩ .f32) (h₁ h₂ h₃ h₄ h₅) (r : Fin m) (c : Fin n) :
    truncf .bf16 (mulf (mulf v (broadcastTo ⟨2, ![m, n]⟩ (shapeCast ⟨2, ![m, 1]⟩ xs h₁) h₂))
      (broadcastTo ⟨2, ![m, n]⟩ (shapeCast ⟨2, ![1, n]⟩ ws h₃) h₄)) h₅ (ix2 r c)
      = ((M r c : ℝ) : EReal) * xs (ix2 r 0) * ws (ix2 0 c) := by
  rw [shapeCast_self, shapeCast_self]
  show v (ix2 r c) * broadcastTo ⟨2, ![m, n]⟩ xs h₂ (ix2 r c) * broadcastTo ⟨2, ![m, n]⟩ ws h₄ (ix2 r c) = _
  have hr := r.isLt
  have hc := c.isLt
  rw [hv, broadcastTo_apply xs h₂ (ix2 r c) (ix2 r 0) fun a => by
      match a with
      | ⟨0, _⟩ => show r.val = if m = 1 then 0 else r.val; split <;> omega
      | ⟨1, _⟩ => rfl,
    broadcastTo_apply ws h₄ (ix2 r c) (ix2 0 c) fun a => by
      match a with
      | ⟨0, _⟩ => rfl
      | ⟨1, _⟩ => show c.val = if n = 1 then 0 else c.val; split <;> omega]

/-- A load of a rectangle of a two-axis array, read at a coordinate pair. -/
theorem ld_ix2 {Val : EltTy → Type} {e : EltTy} {M N : ℕ} (X : Shape.Idx ⟨2, ![M, N]⟩ → Val e) (r₀ c₀ : ℕ) (inb) (r : Fin m) (c : Fin n)
    (R : Fin M) (C : Fin N) (hR : R.val = r₀ + r.val) (hC : C.val = c₀ + c.val) :
    View.ld X (Rect.unit (s := ⟨2, ![M, N]⟩) ![r₀, c₀] ![m, n] inb) (ix2 r c) = X (ix2 R C) := by
  rw [View.ld_unit]
  refine congrArg X (funext fun a => Fin.ext ?_)
  match a with
  | ⟨0, _⟩ => exact hR.symm
  | ⟨1, _⟩ => exact hC.symm

end Cert.Proof.RealMatrix
-- ==== Proof.Signs.lean ====
/- The signs of the Hadamard matrix of order 128. -/
module

public import Mathlib.Data.EReal.Operations

@[expose] public section

noncomputable section

namespace Cert.Proof.Signs

/-- Whether the Hadamard matrix's entry in row `j`, column `i` is −1: the parity of the binary digits the two share. -/
def odd (j i : ℕ) : Bool := (List.range 7).foldl (fun b k => b ^^ (j &&& i).testBit k) false

/-- The Hadamard matrix's entry in row `j`, column `i`. -/
def sign (j i : ℕ) : EReal := if odd j i then -1 else 1

end Cert.Proof.Signs
-- ==== Proof.Rotation.lean ====
/- The Hadamard rotation of one row, its largest magnitude, and how both take a positive factor. -/
module

public import proofs.«01_k».proof.Proof.Signs
public import Mathlib.Data.EReal.Inv
public import Mathlib.Algebra.BigOperators.Group.Finset.Basic
public import Mathlib.Data.Finset.Lattice.Fold

@[expose] public section

noncomputable section

namespace Cert.Proof.Rotation

open Cert.Proof.Signs
open scoped BigOperators

/-- The magnitude of a number. -/
def mag (a : EReal) : EReal := max a (-a)

/-- Entry `n` of the row `x`, rotated within its group of 128 by the signs alone. -/
def rot (x : ℕ → EReal) (n : ℕ) : EReal := ∑ j : Fin 128, x (128 * (n / 128) + j.val) * sign j.val (n % 128)

/-- The largest magnitude of the rotated row. -/
def amax (x : ℕ → EReal) : EReal := (Finset.univ : Finset (Fin 9856)).sup fun n => mag (rot x n.val)

/-- A magnitude is not negative. -/
theorem mag_nonneg (a : EReal) : 0 ≤ mag a := by
  rcases le_total 0 a with h | h
  · exact h.trans (le_max_left _ _)
  · exact (EReal.neg_nonneg.2 h).trans (le_max_right _ _)

/-- A magnitude takes a factor that is not negative. -/
theorem mag_mul (a : EReal) {c : EReal} (hc : 0 ≤ c) : mag (a * c) = mag a * c := by
  unfold mag
  rw [← EReal.neg_mul]
  have hm : Monotone fun x : EReal => x * c := fun x y h => mul_le_mul_of_nonneg_right h hc
  exact hm.map_max.symm

/-- A finite sum takes a factor that is neither negative nor infinite. -/
theorem sum_mul {ι : Type} (s : Finset ι) (f : ι → EReal) {c : EReal} (hc : 0 ≤ c) (hc' : c ≠ ⊤) : (∑ i ∈ s, f i) * c = ∑ i ∈ s, f i * c := by
  classical
  induction s using Finset.induction_on with
  | empty => simp
  | insert a s ha ih => rw [Finset.sum_insert ha, Finset.sum_insert ha, EReal.right_distrib_of_nonneg_of_ne_top hc hc', ih]

/-- Rotating by scaled signs is rotating by the signs and scaling. -/
theorem rot_mul (x : ℕ → EReal) (n : ℕ) {c : EReal} (hc : 0 ≤ c) (hc' : c ≠ ⊤) :
    ∑ j : Fin 128, x (128 * (n / 128) + j.val) * (sign j.val (n % 128) * c) = rot x n * c := by
  unfold rot
  rw [sum_mul _ _ hc hc']
  exact Finset.sum_congr rfl fun j _ => (mul_assoc _ _ _).symm

/-- The largest magnitude of a scaled row is the largest magnitude, scaled. -/
theorem amax_mul (x : ℕ → EReal) {c : EReal} (hc : 0 < c) :
    ((Finset.univ : Finset (Fin 9856)).sup fun n => mag (rot x n.val * c)) = amax x * c := by
  unfold amax
  rw [Finset.comp_sup_eq_sup_comp_of_is_total (fun a : EReal => a * c) (fun a b h => mul_le_mul_of_nonneg_right h hc.le)
    (EReal.bot_mul_of_pos hc)]
  exact Finset.sup_congr rfl fun n _ => mag_mul _ hc.le

/-! ## The running maximum, lane by lane -/

/-- Lane `l`'s running maximum over the first groups of 128, from zero. -/
def runMax (x : ℕ → EReal) (l : ℕ) : ℕ → EReal
  | 0 => 0
  | g + 1 => max (runMax x l g) (mag (rot x (128 * g + l)))

/-- What bounds a running maximum. -/
theorem runMax_le (x : ℕ → EReal) (l : ℕ) (b : EReal) : ∀ g, runMax x l g ≤ b ↔ 0 ≤ b ∧ ∀ k < g, mag (rot x (128 * k + l)) ≤ b
  | 0 => by simp [runMax]
  | g + 1 => by
    rw [runMax, max_le_iff, runMax_le x l b g, and_assoc]
    refine and_congr_right fun _ => ⟨fun h k hk => ?_, fun h => ⟨fun k hk => h k (by omega), h g (by omega)⟩⟩
    rcases Nat.lt_succ_iff_lt_or_eq.1 hk with h' | rfl
    · exact h.1 k h'
    · exact h.2

/-- The largest of the 128 lanes' running maxima over all 77 groups is the row's largest magnitude. -/
theorem lanes (x : ℕ → EReal) : ((Finset.univ : Finset (Fin 128)).sup fun l => runMax x l.val 77) = amax x := by
  refine eq_of_forall_ge_iff fun b => ?_
  unfold amax
  rw [Finset.sup_le_iff, Finset.sup_le_iff]
  refine ⟨fun h n _ => ?_, fun h l _ => (runMax_le x l.val b 77).2 ⟨(mag_nonneg _).trans (h 0 (Finset.mem_univ _)), fun k hk => ?_⟩⟩
  · have hn := n.isLt
    have e := ((runMax_le x (n.val % 128) b 77).1 (h ⟨n.val % 128, by omega⟩ (Finset.mem_univ _))).2 (n.val / 128) (by omega)
    rwa [Nat.div_add_mod] at e
  · have hl := l.isLt
    exact h ⟨128 * k + l.val, by omega⟩ (Finset.mem_univ _)

end Cert.Proof.Rotation
-- ==== Proof.Chunks.lean ====
/- What the first kernel's matrix products and running maxima hold, for one block of rows. -/
module

public import proofs.«01_k».proof.Proof.RealMatrix
public import proofs.«01_k».proof.Proof.Rotation
public import proofs.«01_k».proof.Proof.Gen.KernelIdeal.Frame
public import Idealize.ShloMosaic.Lib.Pipeline.ValueKit

@[expose] public section

set_option maxRecDepth 16384

noncomputable section

namespace Cert.Proof.Chunks

open Cert.KernelIdeal Cert.KernelIdeal.Gen Cert.Proof.RealMatrix Cert.Proof.Rotation Cert.Proof.Signs
open Idealize.ShloMosaic hiding ix2 eq_ix2
open Idealize.ShloMosaic.TcCoe Idealize.ShloMosaic.Tactic Idealize.ShloMosaic.ValueIdx
open scoped BigOperators

/-- Row `r` of an array of activations, its entries numbered by the naturals. -/
def rowOf {M : ℕ} (x : FVec Ideal ⟨2, ![M, 9856]⟩ .bf16) (r : Fin M) (n : ℕ) : EReal := if h : n < 9856 then x (ix2 r ⟨n, h⟩) else 0

/-- The array holds two copies of the Hadamard signs down the diagonal and zeros elsewhere. -/
def IsTable (h : FVec Ideal S256x256 .bf16) : Prop :=
  ∀ j i : Fin 256, h (ix2 j i) = if j.val / 128 = i.val / 128 then sign (j.val % 128) (i.val % 128) else 0

/-- The array holds the rotated rows' entries from column `c` on. -/
def Dot {n : ℕ} (x : FVec Ideal S256x9856 .bf16) (w : FVec Ideal ⟨2, ![256, n]⟩ .f32) (c : ℕ) : Prop :=
  ∀ r i, w (ix2 r i) = rot (rowOf x r) (c + i.val)

/-- The array holds the running maxima over the first `g` groups. -/
def Acc (x : FVec Ideal S256x9856 .bf16) (v : FVec Ideal S256x128 .f32) (g : ℕ) : Prop := ∀ r l, v (ix2 r l) = runMax (rowOf x r) l.val g

/-- Columns `c` to `c + n` of the block. -/
abbrev cols (x : FVec Ideal S256x9856 .bf16) (c : ℕ) {n : ℕ} (h : ∀ a, (![0, c] : Fin 2 → ℕ) a + (![256, n] : Fin 2 → ℕ) a ≤ S256x9856.size a) :
    FVec Ideal ⟨2, ![256, n]⟩ .bf16 := View.ld (Val := Elt Ideal) (e' := .bf16) x (Rect.unit (s := S256x9856) ![0, c] ![256, n] h)

variable {h : FVec Ideal S256x256 .bf16} {x : FVec Ideal S256x9856 .bf16}

/-- A column of the slice is the row's entry. -/
theorem cols_apply {c n : ℕ} (hc : c + n ≤ 9856) (hb) (r : Fin 256) (k : Fin n) : cols x c (n := n) hb (ix2 r k) = rowOf x r (c + k.val) := by
  have hk : c + k.val < 9856 := by omega
  unfold rowOf
  rw [dif_pos hk]
  exact ld_ix2 (Val := Elt Ideal) (e := .bf16) x 0 c hb r k r ⟨_, hk⟩ (Nat.zero_add _).symm rfl

/-- A 256-wide product holds the rotated entries of its columns: the table's other block only adds zeros. -/
theorem dot256 (hh : IsTable h) (d : ℕ) (hc : 128 * d + 256 ≤ 9856) (hb) : Dot x (k0_pay1 h (cols x (128 * d) (n := 256) hb)) (128 * d) := by
  intro r i
  unfold k0_pay1
  rw [shapeCast_self]
  refine (Ideal.matmul_plain_apply (M := 256) (K := 256) (N := 256) none _ _ _ r i).trans ?_
  show Ideal.ofBits .f32 0x00000000#32 + ∑ k : Fin (128 + 128), _ = _
  rw [Ideal.ofBits_zero_f32, zero_add, Fin.sum_univ_add]
  have hi := i.isLt
  have e1 : (128 * d + i.val) / 128 = d + i.val / 128 := by omega
  have e2 : (128 * d + i.val) % 128 = i.val % 128 := by omega
  unfold rot
  rw [e1, e2]
  rcases (show i.val / 128 = 0 ∨ i.val / 128 = 1 by omega) with h0 | h1
  · rw [h0]
    refine (congrArg₂ (· + ·) (Finset.sum_congr rfl fun k _ => ?_) (Finset.sum_eq_zero fun k _ => ?_)).trans (add_zero _)
    · have hk := k.isLt
      rw [cols_apply hc, hh, h0, if_pos (by show k.val / 128 = 0; omega)]
      exact congrArg₂ (· * ·) rfl (congrArg (sign · _) (Nat.mod_eq_of_lt hk))
    · have hk := k.isLt
      rw [hh, h0, if_neg (by show ¬ (128 + k.val) / 128 = 0; omega), mul_zero]
  · rw [h1]
    refine (congrArg₂ (· + ·) (Finset.sum_eq_zero fun k _ => ?_) (Finset.sum_congr rfl fun k _ => ?_)).trans (zero_add _)
    · have hk := k.isLt
      rw [hh, h1, if_neg (by show ¬ k.val / 128 = 1; omega), mul_zero]
    · have hk := k.isLt
      rw [cols_apply hc, hh, h1, if_pos (by show (128 + k.val) / 128 = 1; omega)]
      exact congrArg₂ (· * ·) (congrArg (rowOf x r) (by show 128 * d + (128 + k.val) = 128 * (d + 1) + k.val; omega))
        (congrArg (sign · _) (by show (128 + k.val) % 128 = k.val; omega))

/-- The last product, 128 wide, holds the rotated entries of the last group. -/
theorem dot128 (hh : IsTable h) (hb) : Dot x (k0_pay88 h (cols x 9728 (n := 128) hb)) 9728 := by
  intro r i
  unfold k0_pay88
  rw [shapeCast_self]
  refine (Ideal.matmul_plain_apply (M := 256) (K := 128) (N := 128) none _ _ _ r i).trans ?_
  show Ideal.ofBits .f32 0x00000000#32 + ∑ k : Fin 128, _ = _
  rw [Ideal.ofBits_zero_f32, zero_add]
  have hi := i.isLt
  unfold rot
  rw [show (9728 + i.val) / 128 = 76 by omega, show (9728 + i.val) % 128 = i.val by omega]
  refine Finset.sum_congr rfl fun k _ => ?_
  have hk := k.isLt
  rw [cols_apply (by decide), extractStridedSlice_apply _ _ _ (ix2 k i) (ix2 (⟨k.val, by omega⟩ : Fin 256) (⟨i.val, by omega⟩ : Fin 256)) fun a => by
      match a with
      | ⟨0, _⟩ => exact (Nat.zero_add _).symm
      | ⟨1, _⟩ => exact (Nat.zero_add _).symm,
    hh, if_pos (by show k.val / 128 = i.val / 128; omega)]
  exact congrArg₂ (· * ·) rfl (congrArg₂ sign (Nat.mod_eq_of_lt hk) (Nat.mod_eq_of_lt hi))

/-- The running maxima after one more 256-wide product: two more groups. -/
theorem Acc.step {v : FVec Ideal S256x128 .f32} {w : FVec Ideal S256x256 .f32} {g : ℕ} (hv : Acc x v g) (hw : Dot x w (128 * g)) (h₁ h₂) :
    Acc x (maximumf (maximumf v (absf (extractStridedSlice S256x128 ![0, 0] w h₁))) (absf (extractStridedSlice S256x128 ![0, 128] w h₂))) (g + 2) := by
  intro r l
  have hl := l.isLt
  have e₁ : extractStridedSlice S256x128 ![0, 0] w h₁ (ix2 r l) = rot (rowOf x r) (128 * g + l.val) := by
    rw [extractStridedSlice_apply _ _ _ (ix2 r l) (ix2 r (⟨l.val, by omega⟩ : Fin 256)) fun a => by
      match a with
      | ⟨0, _⟩ => exact (Nat.zero_add _).symm
      | ⟨1, _⟩ => exact (Nat.zero_add _).symm]
    exact hw r _
  have e₂ : extractStridedSlice S256x128 ![0, 128] w h₂ (ix2 r l) = rot (rowOf x r) (128 * (g + 1) + l.val) := by
    rw [extractStridedSlice_apply _ _ _ (ix2 r l) (ix2 r (⟨128 + l.val, by omega⟩ : Fin 256)) fun a => by
      match a with
      | ⟨0, _⟩ => exact (Nat.zero_add _).symm
      | ⟨1, _⟩ => rfl]
    exact (hw r _).trans (congrArg (rot _) (by show 128 * g + (128 + l.val) = _; omega))
  show max (max (v (ix2 r l)) (mag (extractStridedSlice S256x128 ![0, 0] w h₁ (ix2 r l)))) (mag (extractStridedSlice S256x128 ![0, 128] w h₂ (ix2 r l))) = _
  rw [hv, e₁, e₂]
  rfl

/-- The running maxima after the last product: one more group. -/
theorem Acc.last {v w : FVec Ideal S256x128 .f32} {g : ℕ} (hv : Acc x v g) (hw : Dot x w (128 * g)) : Acc x (maximumf v (absf w)) (g + 1) := by
  intro r l
  show max (v (ix2 r l)) (mag (w (ix2 r l))) = _
  rw [hv, hw]
  rfl

/-- Before any product the running maxima are zero. -/
theorem Acc.zero : Acc x (broadcast S256x128 (Scalar.ofBits (F := Ideal) .f32 0x00000000#32)) 0 := by
  intro r l
  exact Ideal.ofBits_zero_f32

end Cert.Proof.Chunks
-- ==== Proof.KernelTableUpper.lean ====
/- The kernel's constant table, its upper left quarter: the Hadamard signs. -/
module

public import proofs.«01_k».proof.Proof.Signs
public import proofs.«01_k».proof.Proof.Gen.KernelIdeal.Frame

@[expose] public section

set_option maxRecDepth 16384

namespace Cert.Proof.KernelTable

open Cert.Proof.Signs

/-- The upper left quarter, word by word: ±1 in bf16. -/
theorem upper : ∀ j i : Fin 128,
    Cert.KernelIdeal.lit0t (256 * j.val + i.val) = if odd j.val i.val then 0xBF80#16 else 0x3F80#16 := by decide +kernel

end Cert.Proof.KernelTable
-- ==== Proof.KernelTableLower.lean ====
/- The kernel's constant table, its lower right quarter: the Hadamard signs. -/
module

-- imported so that the long checks of the tables run one after another
public import proofs.«01_k».proof.Proof.KernelTableUpper
public import proofs.«01_k».proof.Proof.Gen.KernelIdeal.Frame

@[expose] public section

set_option maxRecDepth 16384

namespace Cert.Proof.KernelTable

open Cert.Proof.Signs

/-- The lower right quarter, word by word: ±1 in bf16. -/
theorem lower : ∀ j i : Fin 128,
    Cert.KernelIdeal.lit0t (256 * (128 + j.val) + (128 + i.val)) = if odd j.val i.val then 0xBF80#16 else 0x3F80#16 := by decide +kernel

end Cert.Proof.KernelTable
-- ==== Proof.KernelTableCorners.lean ====
/- The kernel's constant table, its other two quarters: signed zeros. -/
module

-- imported so that the long checks of the tables run one after another
public import proofs.«01_k».proof.Proof.KernelTableLower
public import proofs.«01_k».proof.Proof.Gen.KernelIdeal.Frame

@[expose] public section

set_option maxRecDepth 16384

namespace Cert.Proof.KernelTable

open Cert.Proof.Signs

/-- The upper right quarter, word by word: a zero of either sign. -/
theorem right : ∀ j i : Fin 128, (Cert.KernelIdeal.lit0t (256 * j.val + (128 + i.val))).toNat % 32768 = 0 := by decide +kernel

/-- The lower left quarter, word by word: a zero of either sign. -/
theorem left : ∀ j i : Fin 128, (Cert.KernelIdeal.lit0t (256 * (128 + j.val) + i.val)).toNat % 32768 = 0 := by decide +kernel

end Cert.Proof.KernelTable
-- ==== Proof.Table.lean ====
/- The kernel's constant table holds two copies of the Hadamard signs. -/
module

public import proofs.«01_k».proof.Proof.Chunks
public import proofs.«01_k».proof.Proof.KernelTableUpper
public import proofs.«01_k».proof.Proof.KernelTableLower
public import proofs.«01_k».proof.Proof.KernelTableCorners
public import Idealize.ShloMosaic.Lib.IdealHost

@[expose] public section

noncomputable section

namespace Cert.Proof.Table

open Cert.KernelIdeal Cert.Proof.Signs Cert.Proof.Chunks Cert.Proof.KernelTable
open Idealize.ShloMosaic hiding ix2 eq_ix2
open Idealize.ShloMosaic.ValueIdx

/-- A word that is zero up to its sign denotes zero. -/
theorem ofBits_zero {b : BitVec 16} (h : b.toNat % 32768 = 0) : Ideal.ofBits .bf16 b = 0 := by
  have hb := b.isLt
  have : b = 0#16 ∨ b = 0x8000#16 := by
    rcases (by omega : b.toNat = 0 ∨ b.toNat = 32768) with h' | h'
    · exact .inl (BitVec.eq_of_toNat_eq h')
    · exact .inr (BitVec.eq_of_toNat_eq h')
  rcases this with rfl | rfl
  · exact Ideal.ofBits_zero_bf16
  · simp [Ideal.ofBits, Ideal.ieee]

/-- The word of a sign denotes the sign. -/
theorem ofBits_sign (j i : ℕ) : Ideal.ofBits .bf16 (if odd j i then 0xBF80#16 else 0x3F80#16) = sign j i := by
  unfold sign
  split
  · rw [Ideal.ofBits_neg_one_bf16]; simp
  · exact Ideal.ofBits_one_bf16

/-- A table of words with the signs in its two diagonal quarters and zeros in the others, entry by entry. -/
theorem entry (f : ℕ → BitVec 16)
    (up : ∀ j i : Fin 128, f (256 * j.val + i.val) = if odd j.val i.val then 0xBF80#16 else 0x3F80#16)
    (lo : ∀ j i : Fin 128, f (256 * (128 + j.val) + (128 + i.val)) = if odd j.val i.val then 0xBF80#16 else 0x3F80#16)
    (ri : ∀ j i : Fin 128, (f (256 * j.val + (128 + i.val))).toNat % 32768 = 0)
    (le : ∀ j i : Fin 128, (f (256 * (128 + j.val) + i.val)).toNat % 32768 = 0) (j i : ℕ) (hj : j < 256) (hi : i < 256) :
    Ideal.ofBits .bf16 (f (256 * j + i)) = if j / 128 = i / 128 then sign (j % 128) (i % 128) else 0 := by
  rcases (by omega : j < 128 ∨ 128 ≤ j) with j' | j' <;> rcases (by omega : i < 128 ∨ 128 ≤ i) with i' | i'
  · rw [if_pos (by omega), Nat.mod_eq_of_lt j', Nat.mod_eq_of_lt i', up ⟨j, j'⟩ ⟨i, i'⟩, ofBits_sign]
  · have h := ri ⟨j, j'⟩ ⟨i - 128, by omega⟩
    rw [show 128 + (i - 128) = i by omega] at h
    rw [if_neg (by omega), ofBits_zero h]
  · have h := le ⟨j - 128, by omega⟩ ⟨i, i'⟩
    rw [show 128 + (j - 128) = j by omega] at h
    rw [if_neg (by omega), ofBits_zero h]
  · have h := lo ⟨j - 128, by omega⟩ ⟨i - 128, by omega⟩
    rw [show 128 + (i - 128) = i by omega, show 128 + (j - 128) = j by omega] at h
    rw [if_pos (by omega), h, ofBits_sign, show j % 128 = j - 128 by omega, show i % 128 = i - 128 by omega]

/-- The table as the kernel's host program builds it. -/
theorem table : IsTable (fun i => FloatOps.ofBits (F := Ideal) .bf16 (lit0 (S256x256.rowMajor i))) := by
  intro j i
  refine Eq.trans (congrArg (fun n => Ideal.ofBits .bf16 (lit0t n)) ?_) (entry lit0t upper lower right left j.val i.val j.isLt i.isLt)
  refine (Shape.rowMajor_val_two (d := ![256, 256]) (ix2 j i)).trans ?_
  show j.val * 256 + i.val = _
  omega

end Cert.Proof.Table
-- ==== Proof.KernelHost.lean ====
/- The kernel's host lines, from any buffer contents: reshapes, and the table the program writes out. -/
module

public import proofs.«01_k».proof.Proof.Gen.KernelIdeal.Frame
public import Idealize.ShloMosaic.Lib.Pipeline.ValueKit

@[expose] public section

set_option maxRecDepth 16384

noncomputable section

namespace Cert.Proof.KernelHost

open Cert.KernelIdeal Cert.KernelIdeal.Gen
open Idealize.ShloMosaic hiding ix2 eq_ix2
open Idealize.ShloMosaic.TcCoe Idealize.ShloMosaic.Tactic

variable (W : Valuation τ sig (Elt Ideal))

/-- The first lines leave the argument's rows, -/
theorem line_rows : StableHlo.after hostOps0 W (Proc.devRef .tc main_v0)
    = (shapeCast S6144x9856 (W (Proc.devRef .tc main_arg0)) shapeCasts_S1x6144x9856_S6144x9856 : FVec Ideal S6144x9856 .bf16) := by
  after_results
  rfl

/-- and the table. -/
theorem line_table : StableHlo.after hostOps0 W (Proc.devRef .tc main_cst)
    = (fun i => FloatOps.ofBits (F := Ideal) .bf16 (lit0 (S256x256.rowMajor i)) : FVec Ideal S256x256 .bf16) := by
  after_results
  rfl

/-- Between the calls the column scales become a row. -/
theorem line_columns : StableHlo.after hostOps1 W (Proc.devRef .tc main_v2)
    = (shapeCast S1x12288 (W (Proc.devRef .tc main_arg2)) shapeCasts_S12288_S1x12288 : FVec Ideal S1x12288 .f32) := by
  after_results
  rfl

/-- The last lines give the output its leading axis, -/
theorem line_output : StableHlo.after hostOps2 W (Proc.devRef .tc main_v4)
    = (shapeCast S1x6144x12288 (W (Proc.devRef .tc main_v3)) shapeCasts_S6144x12288_S1x6144x12288 : FVec Ideal S1x6144x12288 .bf16) := by
  after_results
  rfl

/-- the codes theirs, -/
theorem line_codes : StableHlo.after hostOps2 W (Proc.devRef .tc main_v5)
    = (shapeCast S1x6144x9856 (W (Proc.devRef .tc main_v1_0)) shapeCasts_S6144x9856_S1x6144x9856 : IVec S1x6144x9856 8) := by
  after_results
  rfl

/-- and the scales theirs. -/
theorem line_scales : StableHlo.after hostOps2 W (Proc.devRef .tc main_v6)
    = (shapeCast S1x6144x1 (W (Proc.devRef .tc main_v1_1)) shapeCasts_S6144x1_S1x6144x1 : FVec Ideal S1x6144x1 .f32) := by
  after_results
  rfl

end Cert.Proof.KernelHost
-- ==== Proof.Strassen.lean ====
/- What one grid point of the second kernel writes: its block of the product of the integer codes, rescaled by both scales. -/
module

public import proofs.«01_k».proof.Proof.RealMatrix
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Proof.Strassen

open Cert.KernelIdeal Cert.KernelIdeal.Gen Cert.Proof.RealMatrix
open Idealize.ShloMosaic hiding ix2 eq_ix2
open Idealize.ShloMosaic.TcCoe Idealize.ShloMosaic.Tactic Idealize.ShloMosaic.ValueIdx
open Idealize.ShloMosaic.Pipeline (Dat Cfg Window)
open scoped BigOperators

/-! ## The seven products, and the four sums kept between them -/

section Payloads
variable (u v : IVec S512x4864 8) (s t : IVec S4864x512 8) {w : FVec Ideal S512x512 .f32} {M : Matrix (Fin 512) (Fin 512) ℝ}

/-- `(a10 + a11) · b00`. -/
theorem pay2 : Is (k1_pay2 (F := Ideal) u v s) ((ints u + ints v) * ints s) := by
  unfold k1_pay2
  rw [shapeCast_self, shapeCast_self]
  exact .matmul (.addf (.sitofp u) (.sitofp v)) (.sitofp s)

/-- The same, stored. -/
theorem pay3 : Is (k1_pay3 (F := Ideal) u v s) ((ints u + ints v) * ints s) := by
  unfold k1_pay3; exact (pay2 u v s).shapeCast _

/-- Its negative, stored. -/
theorem pay4 : Is (k1_pay4 (F := Ideal) u v s) (0 - (ints u + ints v) * ints s) := by
  unfold k1_pay4; exact (Is.subf .zero (pay2 u v s)).shapeCast _

/-- `a11 · (b10 − b00)`. -/
theorem pay5 : Is (k1_pay5 (F := Ideal) u s t) (ints u * (ints s - ints t)) := by
  unfold k1_pay5
  rw [shapeCast_self]
  exact .matmul (.sitofp u) (.subf (.sitofp s) (.sitofp t))

/-- The same, stored. -/
theorem pay6 : Is (k1_pay6 (F := Ideal) u s t) (ints u * (ints s - ints t)) := by
  unfold k1_pay6; exact (pay5 u s t).shapeCast _

/-- The same, added to a kept sum. -/
theorem pay7 (h : Is w M) : Is (k1_pay7 (F := Ideal) u s t w) (M + ints u * (ints s - ints t)) := by
  unfold k1_pay7; exact h.addf (pay5 u s t)

/-- `a00 · (b01 − b11)`. -/
theorem pay9 : Is (k1_pay9 (F := Ideal) u s t) (ints u * (ints s - ints t)) := by
  unfold k1_pay9
  rw [shapeCast_self]
  exact .matmul (.sitofp u) (.subf (.sitofp s) (.sitofp t))

/-- The same, stored. -/
theorem pay10 : Is (k1_pay10 (F := Ideal) u s t) (ints u * (ints s - ints t)) := by
  unfold k1_pay10; exact (pay9 u s t).shapeCast _

/-- The same, added to a kept sum and stored. -/
theorem pay11 (h : Is w M) : Is (k1_pay11 (F := Ideal) u s t w) (M + ints u * (ints s - ints t)) := by
  unfold k1_pay11; exact (h.addf (pay9 u s t)).shapeCast _

/-- `(a00 + a01) · b11`. -/
theorem pay12 : Is (k1_pay12 (F := Ideal) u v s) ((ints u + ints v) * ints s) := by
  unfold k1_pay12
  rw [shapeCast_self, shapeCast_self]
  exact .matmul (.addf (.sitofp u) (.sitofp v)) (.sitofp s)

/-- The same, taken from a kept sum and stored. -/
theorem pay13 (h : Is w M) : Is (k1_pay13 (F := Ideal) u v s w) (M - (ints u + ints v) * ints s) := by
  unfold k1_pay13; exact (h.subf (pay12 u v s)).shapeCast _

/-- `(a00 + a11) · (b00 + b11)`. -/
theorem pay15 : Is (k1_pay15 (F := Ideal) u v s t) ((ints u + ints v) * (ints s + ints t)) := by
  unfold k1_pay15
  rw [shapeCast_self, shapeCast_self]
  exact .matmul (.addf (.sitofp u) (.sitofp v)) (.addf (.sitofp s) (.sitofp t))

/-- The same, added to the first kept sum and stored. -/
theorem pay16 (h : Is w M) : Is (k1_pay16 (F := Ideal) u v s t w) (M + (ints u + ints v) * (ints s + ints t)) := by
  unfold k1_pay16; exact (h.addf (pay15 u v s t)).shapeCast _

/-- The same, added to the second kept sum and stored. -/
theorem pay17 (h : Is w M) : Is (k1_pay17 (F := Ideal) u v s t w) (M + (ints u + ints v) * (ints s + ints t)) := by
  unfold k1_pay17; exact (h.addf (pay15 u v s t)).shapeCast _

/-- `a10 − a00`. -/
theorem pay18 : Is (k1_pay18 (F := Ideal) u v) (ints u - ints v) := by
  unfold k1_pay18
  rw [shapeCast_self, shapeCast_self]
  exact .subf (.sitofp u) (.sitofp v)

/-- `a01 − a11`. -/
theorem pay20 : Is (k1_pay20 (F := Ideal) u v) (ints u - ints v) := by
  unfold k1_pay20
  rw [shapeCast_self, shapeCast_self]
  exact .subf (.sitofp u) (.sitofp v)

/-- The remainder of the contracted axis: the product of the last 128 columns and rows. -/
theorem rem (p : IVec S512x128 8) (q : IVec S128x512 8) (h) :
    Is (FloatOps.matmul (F := Ideal) (φ₁ := .bf16) (φ₂ := .bf16) dot_S512x128_S128x512_S512x512_1_0_0_1_n_n none
      (sitofp .bf16 (shapeCast S512x128 p h)) (sitofp .bf16 q) (constant S512x512 .f32 0x00000000#32)) (ints p * ints q) := by
  rw [shapeCast_self]
  exact .matmul (.sitofp p) (.sitofp q)

end Payloads

/-! ## The four quadrants -/

section Quadrants
variable {x0 : IVec S1024x9856 8} {x1 : IVec S9856x1024 8} {r₀ c₀ : ℕ}

/-- The codes' rows from `r₀`, the columns from `k₀` on, of a block of codes. -/
abbrev rowsAt (x0 : IVec S1024x9856 8) (r₀ k₀ : ℕ) {l : ℕ} (h : ∀ a, (![r₀, k₀] : Fin 2 → ℕ) a + (![512, l] : Fin 2 → ℕ) a ≤ S1024x9856.size a) :
    IVec ⟨2, ![512, l]⟩ 8 := View.ld (Val := Elt Ideal) (e' := .i8) x0 (Rect.unit (s := S1024x9856) ![r₀, k₀] ![512, l] h)

/-- The weights' columns from `c₀`, the rows from `k₀` on, of a block of weights. -/
abbrev colsAt (x1 : IVec S9856x1024 8) (k₀ c₀ : ℕ) {l : ℕ} (h : ∀ a, (![k₀, c₀] : Fin 2 → ℕ) a + (![l, 512] : Fin 2 → ℕ) a ≤ S9856x1024.size a) :
    IVec ⟨2, ![l, 512]⟩ 8 := View.ld (Val := Elt Ideal) (e' := .i8) x1 (Rect.unit (s := S9856x1024) ![k₀, c₀] ![l, 512] h)

/-- The inner products over the two halves and the remainder of the contracted axis add up to the inner product over all of it. -/
theorem product_split (hr : r₀ + 512 ≤ 1024) (hc : c₀ + 512 ≤ 1024) (h₁ h₂ h₃ h₄ h₅ h₆) (r c : Fin 512) :
    (ints (rowsAt x0 r₀ 0 (l := 4864) h₁) * ints (colsAt x1 0 c₀ (l := 4864) h₂)
      + ints (rowsAt x0 r₀ 4864 (l := 4864) h₃) * ints (colsAt x1 4864 c₀ (l := 4864) h₄)
      + ints (rowsAt x0 r₀ 9728 (l := 128) h₅) * ints (colsAt x1 9728 c₀ (l := 128) h₆)) r c
      = ∑ k : Fin 9856, ints x0 ⟨r₀ + r.val, by omega⟩ k * ints x1 k ⟨c₀ + c.val, by omega⟩ := by
  rw [show (∑ k : Fin 9856, ints x0 ⟨r₀ + r.val, by omega⟩ k * ints x1 k ⟨c₀ + c.val, by omega⟩)
      = ∑ k : Fin (4864 + 4864 + 128), ints x0 ⟨r₀ + r.val, by omega⟩ k * ints x1 k ⟨c₀ + c.val, by omega⟩ from rfl,
    Fin.sum_univ_add, Fin.sum_univ_add, Matrix.add_apply, Matrix.add_apply, Matrix.mul_apply, Matrix.mul_apply, Matrix.mul_apply]
  refine congrArg₂ (· + ·) (congrArg₂ (· + ·) ?_ ?_) ?_ <;> refine Finset.sum_congr rfl fun k _ => congrArg₂ (· * ·) ?_ ?_ <;>
    refine congrArg (fun b : BitVec 8 => (b.toInt : ℝ)) (ld_ix2 (Val := Elt Ideal) (e := .i8) _ _ _ _ _ _ _ _ ?_ ?_) <;>
    simp [Fin.natAdd, Fin.castAdd]

section
variable (x0 : IVec S1024x9856 8) (x1 : IVec S9856x1024 8) (x2 : FVec Ideal S1024x1 .f32) (x3 : FVec Ideal S1x1024 .f32)

/-- The rescaled product of a block of codes and a block of weights: the inner product of the integers, times the row's scale, times the column's. -/
def blockProduct : FVec Ideal S1024x1024 .bf16 := fun y =>
  ((∑ k : Fin 9856, ints x0 (y 0) k * ints x1 k (y 1) : ℝ) : EReal) * x2 (ix2 (y 0) 0) * x3 (ix2 0 (y 1))

end

/-- A quadrant of the output block: an array that holds the quadrant's inner products, rescaled, is the quadrant of the rescaled product. -/
theorem quadrant {x2 : FVec Ideal S1024x1 .f32} {x3 : FVec Ideal S1x1024 .f32} {v : FVec Ideal S512x512 .f32} {M : Matrix (Fin 512) (Fin 512) ℝ}
    (hv : Is v M) (hr : r₀ + 512 ≤ 1024) (hc : c₀ + 512 ≤ 1024) (h₁ h₂ h₃ h₄ h₅ h₆)
    (hM : M = ints (rowsAt x0 r₀ 0 (l := 4864) h₁) * ints (colsAt x1 0 c₀ (l := 4864) h₂)
      + ints (rowsAt x0 r₀ 4864 (l := 4864) h₃) * ints (colsAt x1 4864 c₀ (l := 4864) h₄)
      + ints (rowsAt x0 r₀ 9728 (l := 128) h₅) * ints (colsAt x1 9728 c₀ (l := 128) h₆)) (h₇ h₈ h₉ b₁ b₂ b₃ b₄ b₅)
    (x : S512x512.Idx) :
    truncf .bf16 (mulf (mulf v (broadcastTo S512x512 (shapeCast S512x1
        (View.ld (Val := Elt Ideal) (e' := .f32) x2 (Rect.unit (s := S1024x1) ![r₀, 0] ![512, 1] h₇)) b₁) b₂))
      (broadcastTo S512x512 (shapeCast S1x512
        (View.ld (Val := Elt Ideal) (e' := .f32) x3 (Rect.unit (s := S1x1024) ![0, c₀] ![1, 512] h₈)) b₃) b₄)) b₅ x
      = blockProduct x0 x1 x2 x3 ((Rect.unit (s := S1024x1024) ![r₀, c₀] ![512, 512] h₉).emb x) := by
  obtain ⟨r, c, rfl⟩ : ∃ r c, x = ix2 r c := ⟨_, _, eq_ix2 x⟩
  refine (scaled hv _ _ b₁ b₂ b₃ b₄ b₅ r c).trans ?_
  rw [hM, product_split hr hc]
  have e : (Rect.unit (s := S1024x1024) ![r₀, c₀] ![512, 512] h₉).emb (ix2 r c)
      = ix2 (⟨r₀ + r.val, by omega⟩ : Fin 1024) (⟨c₀ + c.val, by omega⟩ : Fin 1024) := by
    refine funext fun a => Fin.ext ?_
    match a with
    | ⟨0, _⟩ => show r₀ + 1 * r.val = _; rw [Nat.one_mul]
    | ⟨1, _⟩ => show c₀ + 1 * c.val = _; rw [Nat.one_mul]
  rw [e]
  refine congrArg₂ (· * ·) (congrArg₂ (· * ·) rfl ?_) ?_
  · exact ld_ix2 (Val := Elt Ideal) (e := .f32) x2 r₀ 0 h₇ r 0 _ 0 rfl rfl
  · exact ld_ix2 (Val := Elt Ideal) (e := .f32) x3 0 c₀ h₈ 0 c 0 _ rfl rfl

end Quadrants

/-! ## The block -/

/-- Strassen's identities: the four quadrants of the product out of the seven products. -/
theorem block (V : (c : Dev nD) → (b : Ref sig .tc) → Buf (Elt Ideal) ((c : Thread nD τ).loc b)) (c : Dev nD) (t : Fin cfg1.N) :
    outsAt1 V c t = blockProduct (iblk1 V c 0 t) (iblk1 V c 1 t) (iblk1 V c 2 t) (iblk1 V c 3 t) := by
  unfold outsAt1 out1_A_4
  frame_open
  simp (disch := decide) only [↓View.readCov_skip, ↓View.readCov_cons_toLoadRect, ↓View.readCov_fill]
  frame_out
  funext y
  refine View.canon_apply_of_pieces (Val := Elt Ideal) (e := .bf16) (blockProduct _ _ _ _) _ ?_ y (View.cover_of_tiledL (s := S1024x1024) _ S512x512.size (by sl_kernel_rfl) y)
  refine View.PiecesOf.mem ⟨fun x => ?_, fun x => ?_, fun x => ?_, fun x => ?_, trivial⟩
  · unfold k1_pay1 k1_pay21 k1_pay22
    refine quadrant ((pay16 _ _ _ _ (pay13 _ _ _ (pay6 _ _ _))).addf (.addf (.matmul (pay20 _ _) (.addf (.sitofp _) (.sitofp _)))
      (rem _ _ _))) (by decide) (by decide) (by decide) (by decide) (by decide) (by decide) (by decide) (by decide) ?_ _ _ (by decide) _ _ _ _ _ x
    simp only [Matrix.add_mul, Matrix.mul_add, Matrix.sub_mul, Matrix.mul_sub]
    abel
  · unfold k1_pay19
    refine quadrant ((pay17 _ _ _ _ (pay11 _ _ _ (pay4 _ _ _))).addf (.addf (.matmul (pay18 _ _) (.addf (.sitofp _) (.sitofp _)))
      (rem _ _ _))) (by decide) (by decide) (by decide) (by decide) (by decide) (by decide) (by decide) (by decide) ?_ _ _ (by decide) _ _ _ _ _ x
    simp only [Matrix.add_mul, Matrix.mul_add, Matrix.sub_mul, Matrix.mul_sub]
    abel
  · unfold k1_pay14
    refine quadrant (((pay10 _ _ _).addf (pay12 _ _ _)).addf (rem _ _ _))
      (by decide) (by decide) (by decide) (by decide) (by decide) (by decide) (by decide) (by decide) ?_ _ _ (by decide) _ _ _ _ _ x
    simp only [Matrix.add_mul, Matrix.mul_add, Matrix.sub_mul, Matrix.mul_sub]
    abel
  · unfold k1_pay8
    refine quadrant ((pay7 _ _ _ (pay3 _ _ _)).addf (rem _ _ _))
      (by decide) (by decide) (by decide) (by decide) (by decide) (by decide) (by decide) (by decide) ?_ _ _ (by decide) _ _ _ _ _ x
    simp only [Matrix.add_mul, Matrix.mul_add, Matrix.sub_mul, Matrix.mul_sub]
    abel

end Cert.Proof.Strassen
-- ==== Proof.Product.lean ====
/- What the second kernel leaves in its result array: the whole product of the integer codes, rescaled by both scales. -/
module

public import proofs.«01_k».proof.Proof.Strassen

@[expose] public section

set_option maxRecDepth 16384

noncomputable section

namespace Cert.Proof.Product

open Cert.KernelIdeal Cert.KernelIdeal.Gen Cert.Proof.RealMatrix
open Idealize.ShloMosaic hiding ix2 eq_ix2
open Idealize.ShloMosaic.TcCoe Idealize.ShloMosaic.Tactic Idealize.ShloMosaic.ValueIdx
open Idealize.ShloMosaic.Pipeline (Dat Cfg Window)
open scoped BigOperators

/-- The rescaled product of codes and weights: the inner product of the integers, times the row's scale, times the column's. -/
def product (q : IVec S6144x9856 8) (w : IVec S9856x12288 8) (xs : FVec Ideal S6144x1 .f32) (ws : FVec Ideal S1x12288 .f32) :
    FVec Ideal S6144x12288 .bf16 := fun y =>
  ((∑ k : Fin 9856, ints q (y 0) k * ints w k (y 1) : ℝ) : EReal) * xs (ix2 (y 0) 0) * ws (ix2 0 (y 1))

/-- Window 0's block at a point: the codes' rows of the point's first coordinate. -/
theorem index0 : ∀ t : Fin cfg1.N, win1_0.index t = ![(grid1.coords t 0).val, 0] := (by decide +kernel : ∀ t : Fin grid1.N, _)
/-- Window 1's block at a point: the weights' columns of the point's second coordinate. -/
theorem index1 : ∀ t : Fin cfg1.N, win1_1.index t = ![0, (grid1.coords t 1).val] := (by decide +kernel : ∀ t : Fin grid1.N, _)
/-- Window 2's block at a point: the row scales of the point's first coordinate. -/
theorem index2 : ∀ t : Fin cfg1.N, win1_2.index t = ![(grid1.coords t 0).val, 0] := (by decide +kernel : ∀ t : Fin grid1.N, _)
/-- Window 3's block at a point: the column scales of the point's second coordinate. -/
theorem index3 : ∀ t : Fin cfg1.N, win1_3.index t = ![0, (grid1.coords t 1).val] := (by decide +kernel : ∀ t : Fin grid1.N, _)
/-- Window 4's block at a point: the result's block at the point's two coordinates. -/
theorem index4 : ∀ t : Fin cfg1.N, win1_4.index t = ![(grid1.coords t 0).val, (grid1.coords t 1).val] := (by decide +kernel : ∀ t : Fin grid1.N, _)

variable (V : (c : Dev nD) → (b : Ref sig .tc) → Buf (Elt Ideal) ((c : Thread nD τ).loc b)) (c : Dev nD)

/-- The second kernel's result array, after the last grid point. -/
theorem final : (dat1 V c).arrAt 4 cfg1.N = product (V c main_v1_0) (V c main_arg1) (V c main_v1_1) (V c main_v2) := by
  refine (dat1 V c).arrAt_eq_of_covers 4 _ (by decide +kernel) fun t hf y => ?_
  rw [after1_4, Strassen.block]
  unfold Strassen.blockProduct product
  blk_simp [iblk1, index0, index1, index2, index3, index4]
  have eR : ((win1_4.blk t).view.emb y 0).val = (grid1.coords t 0).val * 1024 + (y 0).val := by blk_simp [index4]
  have eC : ((win1_4.blk t).view.emb y 1).val = (grid1.coords t 1).val * 1024 + (y 1).val := by blk_simp [index4]
  generalize (win1_4.blk t).view.emb y 0 = R at eR ⊢
  generalize (win1_4.blk t).view.emb y 1 = C at eC ⊢
  refine congrArg₂ (· * ·) (congrArg₂ (· * ·) (congrArg Real.toEReal (Finset.sum_congr rfl fun k _ => congrArg₂ (· * ·) ?_ ?_)) ?_) ?_
  · refine congrArg (fun b : BitVec 8 => (b.toInt : ℝ)) ?_
    show V c main_v1_0 _ = V c main_v1_0 _
    refine congrArg (V c main_v1_0) ?_
    blk_ext [index0]
    exact eR.symm
  · refine congrArg (fun b : BitVec 8 => (b.toInt : ℝ)) ?_
    show V c main_arg1 _ = V c main_arg1 _
    refine congrArg (V c main_arg1) ?_
    blk_ext [index1]
    exact eC.symm
  · refine congrArg (V c main_v1_1) ?_
    blk_ext [index2]
    exact eR.symm
  · refine congrArg (V c main_v2) ?_
    blk_ext [index3]
    exact eC.symm

end Cert.Proof.Product
-- ==== Proof.Quantise.lean ====
/- What one grid point of the first kernel writes: the scales of its rows and their integer codes. -/
module

public import proofs.«01_k».proof.Proof.Chunks
public import Idealize.ShloMosaic.Lib.Pipeline.ReadBack

@[expose] public section

set_option maxRecDepth 16384

noncomputable section

namespace Cert.Proof.Quantise

open Cert.KernelIdeal Cert.KernelIdeal.Gen Cert.Proof.RealMatrix Cert.Proof.Rotation Cert.Proof.Signs Cert.Proof.Chunks
open Idealize.ShloMosaic hiding ix2 eq_ix2
open Idealize.ShloMosaic.TcCoe Idealize.ShloMosaic.Tactic Idealize.ShloMosaic.ValueIdx
open scoped BigOperators

/-! ## The quantiser of one number -/

/-- The rotation's normalisation: 128^(-1/2) rounded to single precision. -/
def norm : EReal := Ideal.ofBits .f32 0x3DB504F3#32

/-- The scale of a row whose largest magnitude is `a`: `a / 127`, or 1 where `a` is zero. -/
def scaleOf (a : EReal) : EReal :=
  Scalar.select (Ideal.cmp .oeq a (Ideal.ofBits .f32 0x00000000#32)) (Ideal.ofBits .f32 0x3F800000#32) (Ideal.div a (Ideal.ofBits .f32 0x42FE0000#32))

/-- The code of `v` at scale `s`: the quotient, rounded to the nearest integer, ties to even, and clipped to ±127. -/
def codeOf (v s : EReal) : BitVec 8 :=
  Ideal.fptosi 8 (min (Ideal.ofBits .f32 0x42FE0000#32)
    (max (Ideal.ofBits .f32 0xC2FE0000#32) (Ideal.liftRound Ideal.roundHalfEven (Ideal.div v s))))

/-- The scale of row `x`. -/
def rowScale (x : ℕ → EReal) : EReal := scaleOf (amax x * norm)

/-- The code of row `x` at column `n`. -/
def rowCode (x : ℕ → EReal) (n : ℕ) : BitVec 8 := codeOf (rot x n * norm) (rowScale x)

/-! ## The scales -/

variable {h : FVec Ideal S256x256 .bf16} {x : FVec Ideal S256x9856 .bf16}

/-- The running maxima after the first three 256-wide products. -/
theorem first (hh : IsTable h) (b₁ b₂ b₃) : Acc x (k0_pay7 h (cols x 0 b₁) (cols x 256 b₂) (cols x 512 b₃)) 6 :=
  ((Acc.zero.step (dot256 hh 0 (by decide) b₁) _ _).step (dot256 hh 2 (by decide) b₂) _ _).step (dot256 hh 4 (by decide) b₃) _ _

/-- The running maxima after three more 256-wide products; `p` is how the kernel writes the step. -/
theorem three (p) (hp : p = k0_pay14 (F := Ideal)) (hh : IsTable h) {v : FVec Ideal S256x128 .f32} {g c₁ c₂ c₃ : ℕ} (hv : Acc x v g) (b₁ b₂ b₃)
    (e₁ : c₁ = 128 * g) (e₂ : c₂ = 128 * (g + 2)) (e₃ : c₃ = 128 * (g + 4)) (hg : c₃ + 256 ≤ 9856) {g' : ℕ} (hg' : g' = g + 6) :
    Acc x (p h v (cols x c₁ b₁) (cols x c₂ b₂) (cols x c₃ b₃)) g' := by
  subst hp e₁ e₂ e₃ hg'
  unfold k0_pay14
  exact ((hv.step (dot256 hh g (by omega) b₁) _ _).step (dot256 hh (g + 2) (by omega) b₂) _ _).step (dot256 hh (g + 4) (by omega) b₃) _ _

/-- The running maxima after four more 256-wide products. -/
theorem four (p) (hp : p = fun h v a => k0_pay30 (F := Ideal) h v (k0_pay22 h a)) (hh : IsTable h) {v : FVec Ideal S256x128 .f32} {g c₁ c₂ c₃ c₄ : ℕ} (hv : Acc x v g) (b₁ b₂ b₃ b₄)
    (e₁ : c₁ = 128 * g) (e₂ : c₂ = 128 * (g + 2)) (e₃ : c₃ = 128 * (g + 4)) (e₄ : c₄ = 128 * (g + 6)) (hg : c₄ + 256 ≤ 9856)
    {g' : ℕ} (hg' : g' = g + 8) :
    Acc x (p h v (cols x c₁ b₁) (cols x c₂ b₂) (cols x c₃ b₃) (cols x c₄ b₄)) g' := by
  subst hp e₁ e₂ e₃ e₄ hg'
  exact (((hv.step (dot256 hh g (by omega) b₁) _ _).step (dot256 hh (g + 2) (by omega) b₂) _ _).step (dot256 hh (g + 4) (by omega) b₃) _ _).step
    (dot256 hh (g + 6) (by omega) b₄) _ _

/-- The maximum over no lane is the least extended real. -/
theorem ofBits_neg_inf : FloatOps.ofBits (F := Ideal) .f32 0xFF800000#32 = (⊥ : EReal) := by
  simp [FloatOps.ofBits, Ideal.ofBits, Ideal.ieee]

/-- The index that a row and a lane name. -/
theorem lift (r : Fin 256) (l : Fin 128) : reduces_S256x128_S256.lift (ValueIdx.ix1 r) (l : Fin (S256x128.size 1)) = ix2 r l := by
  funext a
  apply Fin.ext
  refine (Shape.Reduces.lift_val reduces_S256x128_S256 (ValueIdx.ix1 r) l a).trans ?_
  fin_cases a <;> rfl

/-- From the rows' largest sums to their scales, at an index. -/
theorem tail (M : FVec Ideal S256x1 .f32) (i : S256x1.Idx) :
    select (cmpf .oeq (mulf M (broadcast S256x1 (Scalar.ofBits (F := Ideal) .f32 0x3DB504F3#32)))
        (broadcast S256x1 (Scalar.ofBits (F := Ideal) .f32 0x00000000#32)))
      (broadcast S256x1 (Scalar.ofBits (F := Ideal) .f32 0x3F800000#32))
      (divf (mulf M (broadcast S256x1 (Scalar.ofBits (F := Ideal) .f32 0x3DB504F3#32)))
        (broadcast S256x1 (Scalar.ofBits (F := Ideal) .f32 0x42FE0000#32))) i = scaleOf (M i * norm) := rfl

/-- The running maxima over all 77 groups, their largest lane, and the scale it gives. -/
theorem scale (hh : IsTable h) {v : FVec Ideal S256x128 .f32} (hv : Acc x v 72) (b₁ b₂ b₃) (r : Fin 256) (z : Fin 1) :
    k0_pay90 h v (k0_pay1 h (cols x 9216 b₁)) (cols x 9472 b₂) (cols x 9728 b₃) (ix2 r z) = rowScale (rowOf x r) := by
  have ha := ((hv.step (dot256 hh 72 (by decide) b₁) slices_S256x256_o0_0_S256x128 slices_S256x256_o0_128_S256x128).step
    (dot256 hh 74 (by decide) b₂) slices_S256x256_o0_0_S256x128 slices_S256x256_o0_128_S256x128).last (dot128 hh b₃)
  have hm : ∀ w : FVec Ideal S256x128 .f32, Acc x w 77 →
      shapeCast S256x1 (multiReduction .maximumf [1] S256 w 0xFF800000#32 reduces_S256x128_S256 (.inl rfl) rfl) shapeCasts_S256_S256x1 (ix2 r z)
        = amax (rowOf x r) := by
    intro w hw
    have e : shapeCast S256x1 (multiReduction .maximumf [1] S256 w 0xFF800000#32 reduces_S256x128_S256 (.inl rfl) rfl) shapeCasts_S256_S256x1 (ix2 r z)
        = multiReduction .maximumf [1] S256 w 0xFF800000#32 reduces_S256x128_S256 (.inl rfl) rfl (ValueIdx.ix1 r) :=
      shapeCast_apply _ _ _ _ (by
        have hz := z.isLt
        rw [Shape.rowMajor_val_one, Shape.rowMajor_val_two]
        show r.val = r.val * 1 + z.val
        omega)
    rw [e, ← lanes]
    refine (Ideal.multiReduction_maximumf_single w _ _ _ _ _).trans ?_
    refine (congrArg (fun b => (Finset.univ : Finset (Fin 128)).fold max b _) ofBits_neg_inf).trans ?_
    refine Finset.sup_congr rfl fun l _ => ?_
    exact (congrArg w (lift r l)).trans (hw r l)
  unfold k0_pay90 rowScale
  refine (tail _ _).trans ?_
  exact congrArg (fun m => scaleOf (m * norm)) (hm _ ha)

end Cert.Proof.Quantise
-- ==== Proof.Codes.lean ====
/- The block of rows that one step of the kernel's first call quantises: its codes and its scales. -/
module

public import proofs.«01_k».proof.Proof.Quantise
public import Idealize.ShloMosaic.Lib.Pipeline.ReadBack

@[expose] public section

set_option maxRecDepth 16384

noncomputable section

namespace Cert.Proof.Codes

open Cert.KernelIdeal Cert.KernelIdeal.Gen Cert.Proof.RealMatrix Cert.Proof.Rotation Cert.Proof.Chunks Cert.Proof.Quantise
open Idealize.ShloMosaic hiding ix2 eq_ix2
open Idealize.ShloMosaic.TcCoe Idealize.ShloMosaic.Tactic Idealize.ShloMosaic.ValueIdx
open Idealize.ShloMosaic.Pipeline (Dat Cfg Window)

/-- The codes of the block's rows. -/
def codeBlock (x : FVec Ideal S256x9856 .bf16) : IVec S256x9856 8 := fun y => rowCode (rowOf x (y 0)) (y 1).val

/-- The scales of the block's rows. -/
def scaleBlock (x : FVec Ideal S256x9856 .bf16) : FVec Ideal S256x1 .f32 := fun y => rowScale (rowOf x (y 0))

variable {h : FVec Ideal S256x256 .bf16} {x : FVec Ideal S256x9856 .bf16}

/-- An entry's code, from its rotated value and its row's scale. -/
theorem code {n : ℕ} {w : FVec Ideal ⟨2, ![256, n]⟩ .f32} {c : ℕ} (hw : Dot x w c) (hb : S256x1.Broadcasts ⟨2, ![256, n]⟩) (r : Fin 256) (i : Fin n) :
    codeOf (w (ix2 r i) * norm) (broadcastTo ⟨2, ![256, n]⟩ (scaleBlock x) hb (ix2 r i)) = rowCode (rowOf x r) (c + i.val) := by
  rw [hw r i]
  refine congrArg (codeOf _) ?_
  exact broadcastTo_apply _ hb (ix2 r i) (ix2 r 0) (fun a => by
    match a with
    | ⟨0, _⟩ => rfl
    | ⟨1, _⟩ => rfl)

/-- A store of 256 columns of codes. -/
theorem store256 (hh : IsTable h) {s : FVec Ideal S256x1 .f32} (hs : s = scaleBlock x) {c : ℕ} (hd : 128 ∣ c) (hc : c + 256 ≤ 9856) (b h₉)
    (y : S256x256.Idx) :
    k0_pay91 s (k0_pay2 (F := Ideal) h (cols x c b)) y = codeBlock x ((Rect.unit (s := S256x9856) ![0, c] ![256, 256] h₉).emb y) := by
  subst hs
  obtain ⟨d, rfl⟩ := hd
  obtain ⟨r, i, rfl⟩ : ∃ r i, y = ix2 r i := ⟨_, _, eq_ix2 y⟩
  have e : (Rect.unit (s := S256x9856) ![0, 128 * d] ![256, 256] h₉).emb (ix2 r i) = ix2 r (⟨128 * d + i.val, by omega⟩ : Fin 9856) := by
    refine funext fun a => Fin.ext ?_
    match a with
    | ⟨0, _⟩ => show 0 + 1 * r.val = r.val; omega
    | ⟨1, _⟩ => show 128 * d + 1 * i.val = _; rw [Nat.one_mul]
  rw [e]
  unfold k0_pay91 k0_pay2
  rw [shapeCast_self]
  exact code (dot256 hh d hc b) broadcasts_S256x1_S256x256 r i

/-- The store of the last 128 columns of codes. -/
theorem store128 (hh : IsTable h) {s : FVec Ideal S256x1 .f32} (hs : s = scaleBlock x) (b h₉) (y : S256x128.Idx) :
    k0_pay129 s (k0_pay89 (F := Ideal) h (cols x 9728 b)) y = codeBlock x ((Rect.unit (s := S256x9856) ![0, 9728] ![256, 128] h₉).emb y) := by
  subst hs
  obtain ⟨r, i, rfl⟩ : ∃ r i, y = ix2 r i := ⟨_, _, eq_ix2 y⟩
  have e : (Rect.unit (s := S256x9856) ![0, 9728] ![256, 128] h₉).emb (ix2 r i) = ix2 r (⟨9728 + i.val, by omega⟩ : Fin 9856) := by
    refine funext fun a => Fin.ext ?_
    match a with
    | ⟨0, _⟩ => show 0 + 1 * r.val = r.val; omega
    | ⟨1, _⟩ => show 9728 + 1 * i.val = _; rw [Nat.one_mul]
  rw [e]
  unfold k0_pay129 k0_pay89
  rw [shapeCast_self]
  exact code (dot128 hh b) broadcasts_S256x1_S256x128 r i

/-- The scales, from the running maxima over the first 72 groups. -/
theorem scales (hh : IsTable h) {v : FVec Ideal S256x128 .f32} (hv : Acc x v 72) (b₁ b₂ b₃) :
    k0_pay90 h v (k0_pay84 h (cols x 9216 b₁)) (cols x 9472 b₂) (cols x 9728 b₃) = scaleBlock x :=
  funext fun y => (congrArg _ (eq_ix2 y)).trans (scale hh hv b₁ b₂ b₃ (y 0) (y 1))

/-- The step's two stored blocks, when its table is the Hadamard table. -/
theorem block (V : (c : Dev nD) → (b : Ref sig .tc) → Buf (Elt Ideal) ((c : Thread nD τ).loc b)) (c : Dev nD) (t : Fin cfg0.N)
    (hh : IsTable (iblk0 V c 1 t)) : outsAt0 V c t = (codeBlock (iblk0 V c 0 t), scaleBlock (iblk0 V c 0 t)) := by
  have a₁ := first (x := iblk0 V c 0 t) hh inb_S256x9856_S256x256_0_0 inb_S256x9856_S256x256_0_256 inb_S256x9856_S256x256_0_512
  have a₂ := three k0_pay14 rfl hh a₁ inb_S256x9856_S256x256_0_768 inb_S256x9856_S256x256_0_1024 inb_S256x9856_S256x256_0_1280
    rfl rfl rfl (by decide) (g' := 12) rfl
  have a₃ := three (fun h v a => k0_pay21 h v (k0_pay15 h a)) rfl hh a₂ inb_S256x9856_S256x256_0_1536 inb_S256x9856_S256x256_0_1792 inb_S256x9856_S256x256_0_2048
    rfl rfl rfl (by decide) (g' := 18) rfl
  have a₄ := four (fun h v a => k0_pay30 h v (k0_pay22 h a)) rfl hh a₃ inb_S256x9856_S256x256_0_2304 inb_S256x9856_S256x256_0_2560 inb_S256x9856_S256x256_0_2816 inb_S256x9856_S256x256_0_3072
    rfl rfl rfl rfl (by decide) (g' := 26) rfl
  have a₅ := three k0_pay37 rfl hh a₄ inb_S256x9856_S256x256_0_3328 inb_S256x9856_S256x256_0_3584 inb_S256x9856_S256x256_0_3840
    rfl rfl rfl (by decide) (g' := 32) rfl
  have a₆ := three (fun h v a => k0_pay44 h v (k0_pay38 h a)) rfl hh a₅ inb_S256x9856_S256x256_0_4096 inb_S256x9856_S256x256_0_4352 inb_S256x9856_S256x256_0_4608
    rfl rfl rfl (by decide) (g' := 38) rfl
  have a₇ := four (fun h v a => k0_pay53 h v (k0_pay45 h a)) rfl hh a₆ inb_S256x9856_S256x256_0_4864 inb_S256x9856_S256x256_0_5120 inb_S256x9856_S256x256_0_5376 inb_S256x9856_S256x256_0_5632
    rfl rfl rfl rfl (by decide) (g' := 46) rfl
  have a₈ := three k0_pay60 rfl hh a₇ inb_S256x9856_S256x256_0_5888 inb_S256x9856_S256x256_0_6144 inb_S256x9856_S256x256_0_6400
    rfl rfl rfl (by decide) (g' := 52) rfl
  have a₉ := three (fun h v a => k0_pay67 h v (k0_pay61 h a)) rfl hh a₈ inb_S256x9856_S256x256_0_6656 inb_S256x9856_S256x256_0_6912 inb_S256x9856_S256x256_0_7168
    rfl rfl rfl (by decide) (g' := 58) rfl
  have b₁ := four (fun h v a => k0_pay76 h v (k0_pay68 h a)) rfl hh a₉ inb_S256x9856_S256x256_0_7424 inb_S256x9856_S256x256_0_7680 inb_S256x9856_S256x256_0_7936 inb_S256x9856_S256x256_0_8192
    rfl rfl rfl rfl (by decide) (g' := 66) rfl
  have b₂ := three k0_pay83 rfl hh b₁ inb_S256x9856_S256x256_0_8448 inb_S256x9856_S256x256_0_8704 inb_S256x9856_S256x256_0_8960
    rfl rfl rfl (by decide) (g' := 72) rfl
  have hs := scales hh b₂ inb_S256x9856_S256x256_0_9216 inb_S256x9856_S256x256_0_9472 inb_S256x9856_S256x128_0_9728
  unfold outsAt0 out0_A_2 out0_A_3
  frame_open
  simp (disch := decide) only [↓View.readCov_skip, ↓View.readCov_cons_toLoadRect, ↓View.readCov_fill]
  frame_out
  refine Prod.ext (funext fun y => ?_) ?_
  · refine View.canon_apply_of_pieces (Val := Elt Ideal) (e := .i8) (codeBlock _) _ ?_ y (View.cover_of_tiledBy (s := S256x9856) _ ![256, 128] (by sl_kernel_rfl) y)
    refine View.PiecesOf.mem ⟨fun y => store128 hh hs (by decide) (by decide) y, ?_⟩
    iterate 38 refine ⟨fun y => store256 hh hs (by decide) (by decide) (by decide) (by decide) y, ?_⟩
    trivial
  · dsimp only
    exact hs

end Cert.Proof.Codes
-- ==== Proof.Rows.lean ====
/- The two arrays that the kernel's first call leaves: every row's codes and every row's scale. -/
module

public import proofs.«01_k».proof.Proof.Codes

@[expose] public section

set_option maxRecDepth 16384

noncomputable section

namespace Cert.Proof.Rows

open Cert.KernelIdeal Cert.KernelIdeal.Gen Cert.Proof.RealMatrix Cert.Proof.Rotation Cert.Proof.Chunks Cert.Proof.Quantise Cert.Proof.Codes
open Idealize.ShloMosaic hiding ix2 eq_ix2
open Idealize.ShloMosaic.TcCoe Idealize.ShloMosaic.Tactic Idealize.ShloMosaic.ValueIdx
open Idealize.ShloMosaic.Pipeline (Dat Cfg Window)

/-- All the rows' codes. -/
def codes (x : FVec Ideal S6144x9856 .bf16) : IVec S6144x9856 8 := fun y => rowCode (rowOf x (y 0)) (y 1).val

/-- All the rows' scales. -/
def scales (x : FVec Ideal S6144x9856 .bf16) : FVec Ideal S6144x1 .f32 := fun y => rowScale (rowOf x (y 0))

/-- Window 0's block at a point: its 256 rows. -/
theorem index0 : ∀ t : Fin cfg0.N, win0_0.index t = ![(grid0.coords t 0).val, 0] := (by decide +kernel : ∀ t : Fin grid0.N, _)
/-- Window 1's block at a point: the whole table. -/
theorem index1 : ∀ t : Fin cfg0.N, win0_1.index t = ![0, 0] := (by decide +kernel : ∀ t : Fin grid0.N, _)
/-- Window 2's block at a point: its 256 rows of codes. -/
theorem index2 : ∀ t : Fin cfg0.N, win0_2.index t = ![(grid0.coords t 0).val, 0] := (by decide +kernel : ∀ t : Fin grid0.N, _)
/-- Window 3's block at a point: its 256 rows of scales. -/
theorem index3 : ∀ t : Fin cfg0.N, win0_3.index t = ![(grid0.coords t 0).val, 0] := (by decide +kernel : ∀ t : Fin grid0.N, _)

variable (V : (c : Dev nD) → (b : Ref sig .tc) → Buf (Elt Ideal) ((c : Thread nD τ).loc b)) (c : Dev nD)

/-- The table's block is the table. -/
theorem isTable (hh : IsTable (V c main_cst)) (t : Fin cfg0.N) : IsTable (iblk0 V c 1 t) := by
  intro j i
  refine Eq.trans ?_ (hh j i)
  blk_simp [iblk0, index1]
  refine congrArg (V c main_cst) ?_
  blk_ext [index1]

/-- A row of the block is a row of the array. -/
theorem rowOf_block (t : Fin cfg0.N) (r : Fin 256) (R : Fin 6144) (hR : R.val = (grid0.coords t 0).val * 256 + r.val) :
    rowOf (M := 256) (iblk0 V c 0 t) r = rowOf (M := 6144) (V c main_v0) R := by
  funext n
  unfold rowOf
  split
  · blk_simp [iblk0, index0]
    refine congrArg (V c main_v0) ?_
    blk_ext [index0]
    exact hR.symm
  · rfl

/-- The codes' array, after the last grid point. -/
theorem final_codes (hh : IsTable (V c main_cst)) : (dat0 V c).arrAt 2 cfg0.N = codes (V c main_v0) := by
  refine (dat0 V c).arrAt_eq_of_covers 2 _ (by decide +kernel) fun t hf y => ?_
  rw [after0_2, block V c t (isTable V c hh t)]
  unfold codes codeBlock
  blk_simp []
  have eR : ((win0_2.blk t).view.emb y 0).val = (grid0.coords t 0).val * 256 + (y 0).val := by blk_simp [index2]
  exact congrArg₂ rowCode (rowOf_block V c t _ _ eR) (by rw [index2 t]; simp)

/-- The scales' array, after the last grid point. -/
theorem final_scales (hh : IsTable (V c main_cst)) : (dat0 V c).arrAt 3 cfg0.N = scales (V c main_v0) := by
  refine (dat0 V c).arrAt_eq_of_covers 3 _ (by decide +kernel) fun t hf y => ?_
  rw [after0_3, block V c t (isTable V c hh t)]
  unfold scales scaleBlock
  blk_simp []
  have eR : ((win0_3.blk t).view.emb y 0).val = (grid0.coords t 0).val * 256 + (y 0).val := by blk_simp [index3]
  exact congrArg rowScale (rowOf_block V c t _ _ eR)

end Cert.Proof.Rows
-- ==== Proof.ReferenceHost.lean ====
/- The reference's host lines: what they leave for the scales and for the clipped quotients. -/
module

public import proofs.«01_k».proof.Proof.Gen.ReferenceIdeal.Value
public import Idealize.ShloMosaic.Lib.Pipeline.ValueKit

@[expose] public section

set_option maxRecDepth 16384

noncomputable section

namespace Cert.Proof.ReferenceHost

open Cert.ReferenceIdeal Cert.ReferenceIdeal.Gen
open Idealize.ShloMosaic hiding ix2 eq_ix2
open Idealize.ShloMosaic.TcCoe Idealize.ShloMosaic.Tactic

/-- The rotation as the reference writes it: each group of 128 columns times the normalised Hadamard matrix. -/
def rotated (x : FVec Ideal S1x6144x9856 .bf16) : FVec Ideal S1x6144x9856 .f32 :=
  shapeCast S1x6144x9856
    (Host.dotGeneral dot_S1x6144x77x128_S128x128_S1x6144x77x128_3_0_012_1_n_n (some .fp32)
      (shapeCast S1x6144x77x128 (extf .f32 x bitsLt_bf16_f32) shapeCasts_S1x6144x9856_S1x6144x77x128 : FVec Ideal S1x6144x77x128 .f32)
      (mulf (fun i => FloatOps.ofBits (F := Ideal) .f32 (lit0 (S128x128.rowMajor i)))
        (broadcastInDim S128x128 ![] bcast_S_S128x128 (constant (F := Ideal) S_ .f32 0x3DB504F3#32))))
    shapeCasts_S1x6144x77x128_S1x6144x9856

/-- Each row's largest magnitude. -/
def largest (v : FVec Ideal S1x6144x9856 .f32) : FVec Ideal S1x6144x1 .f32 :=
  broadcastInDim S1x6144x1 ![0, 1] bcast_S1x6144_S1x6144x1_0_1
    (Host.reduce FloatOps.maximumf (Host.absf v) (constant (F := Ideal) S_ .f32 0xFF800000#32) reducesTo_S1x6144x9856_S1x6144_d2 h_S_)

/-- Where a row's largest magnitude is zero. -/
def zero (a : FVec Ideal S1x6144x1 .f32) : IVec S1x6144x1 1 :=
  cmpf .oeq a (broadcastInDim S1x6144x1 ![] bcast_S_S1x6144x1 (constant (F := Ideal) S_ .f32 0x00000000#32))

/-- A row's largest magnitude over 127. -/
def over127 (a : FVec Ideal S1x6144x1 .f32) : FVec Ideal S1x6144x1 .f32 :=
  Host.divf a (broadcastInDim S1x6144x1 ![] bcast_S_S1x6144x1 (constant (F := Ideal) S_ .f32 0x42FE0000#32))

/-- Each row's scale from its largest magnitude. -/
def scaled (a : FVec Ideal S1x6144x1 .f32) : FVec Ideal S1x6144x1 .f32 :=
  select (zero a) (broadcastInDim S1x6144x1 ![] bcast_S_S1x6144x1 (constant (F := Ideal) S_ .f32 0x3F800000#32)) (over127 a)

/-- The quotients, rounded and clipped. -/
def clipped (v : FVec Ideal S1x6144x9856 .f32) (s : FVec Ideal S1x6144x1 .f32) : FVec Ideal S1x6144x9856 .f32 :=
  minimumf (broadcastInDim S1x6144x9856 ![] bcast_S_S1x6144x9856 (constant (F := Ideal) S_ .f32 0x42FE0000#32))
    (maximumf (broadcastInDim S1x6144x9856 ![] bcast_S_S1x6144x9856 (constant (F := Ideal) S_ .f32 0xC2FE0000#32))
      (Host.roundeven (Host.divf v (broadcastInDim S1x6144x9856 ![0, 1, 2] bcast_S1x6144x1_S1x6144x9856_0_1_2 s))))

section Lines

variable (W : Valuation τ sig (Elt Ideal))

/-- The first lines leave the rotation, -/
theorem line_rotated : StableHlo.after hostOps0 W (Proc.devRef .tc main_v5) = rotated (W (Proc.devRef .tc main_arg0)) := by
  after_results
  unfold rotated
  rfl

/-- where each row's largest magnitude is zero, -/
theorem line_zero : StableHlo.after hostOps0 W (Proc.devRef .tc main_v10) = zero (largest (StableHlo.after hostOps0 W (Proc.devRef .tc main_v5))) := by
  after_results
  rfl

/-- each row's largest magnitude over 127, -/
theorem line_quotient : StableHlo.after hostOps0 W (Proc.devRef .tc main_v12) = over127 (largest (StableHlo.after hostOps0 W (Proc.devRef .tc main_v5))) := by
  after_results
  rfl

/-- and the number one. -/
theorem line_one : StableHlo.after hostOps0 W (Proc.devRef .tc main_cst_4) = constant (F := Ideal) S_ .f32 0x3F800000#32 := by
  after_results

/-- The next lines select the scales, -/
theorem line_scale : StableHlo.after hostOps0_1 W (Proc.devRef .tc main_v13)
    = select (W (Proc.devRef .tc main_v10)) (broadcastInDim S1x6144x1 ![] bcast_S_S1x6144x1 (W (Proc.devRef .tc main_cst_4))) (W (Proc.devRef .tc main_v12)) := by
  after_results
  rfl

/-- keeping the rotation. -/
theorem line_kept : StableHlo.after hostOps0_1 W (Proc.devRef .tc main_v5) = W (Proc.devRef .tc main_v5) := by
  after_results

/-- The last lines divide, round and clip, -/
theorem line_clipped : StableHlo.after hostOps0_5 (StableHlo.after hostOps0_4 (StableHlo.after hostOps0_3 (StableHlo.after hostOps0_2 W))) (Proc.devRef .tc main_v17)
    = clipped (W (Proc.devRef .tc main_v5)) (W (Proc.devRef .tc main_v13)) := by
  after_results
  rfl

/-- keeping the scales. -/
theorem line_scale_kept : StableHlo.after hostOps0_5 (StableHlo.after hostOps0_4 (StableHlo.after hostOps0_3 (StableHlo.after hostOps0_2 W))) (Proc.devRef .tc main_v13)
    = W (Proc.devRef .tc main_v13) := by
  after_results

end Lines

variable (m : (ℓ : Loc nD τ sig) → Buf (Elt Ideal) ℓ) (c : Dev nD)

/-- All the host lines, list by list. -/
theorem lists (b : Ref sig .tc) : V m c b = StableHlo.after hostOps0_5 (StableHlo.after hostOps0_4 (StableHlo.after hostOps0_3 (StableHlo.after hostOps0_2
    (StableHlo.after hostOps0_1 (StableHlo.after hostOps0 fun b => m (c, b)))))) (Proc.devRef .tc b) := rfl

/-- The scales that the host lines leave. -/
theorem scales : V m c main_v13 = scaled (largest (rotated (m ((c : Thread nD τ).loc main_arg0)))) := by
  rw [lists, line_scale_kept, line_scale, line_zero, line_quotient, line_one, line_rotated]
  rfl

/-- The clipped quotients that the host lines leave. -/
theorem quotients : V m c main_v17 = clipped (rotated (m ((c : Thread nD τ).loc main_arg0))) (scaled (largest (rotated (m ((c : Thread nD τ).loc main_arg0))))) := by
  rw [lists, line_clipped, line_kept, line_scale, line_zero, line_quotient, line_one, line_rotated]
  rfl

end Cert.Proof.ReferenceHost
-- ==== Proof.ReferenceTable.lean ====
/- The reference's constant table: the Hadamard signs. -/
module

-- imported so that the long checks of the tables run one after another
public import proofs.«01_k».proof.Proof.KernelTableCorners
public import proofs.«01_k».proof.Proof.Gen.ReferenceIdeal.Frame

@[expose] public section

set_option maxRecDepth 16384

namespace Cert.Proof.ReferenceTable

open Cert.Proof.Signs

/-- The reference's table, word by word: ±1 in single precision. -/
theorem word : ∀ j i : Fin 128,
    Cert.ReferenceIdeal.lit0t (128 * j.val + i.val) = if odd j.val i.val then 0xBF800000#32 else 0x3F800000#32 := by decide +kernel

end Cert.Proof.ReferenceTable
-- ==== Proof.ReferenceRows.lean ====
/- The reference's rows: its scales and its codes are those of the quantiser of one row. -/
module

public import proofs.«01_k».proof.Proof.ReferenceHost
public import proofs.«01_k».proof.Proof.ReferenceTable
public import proofs.«01_k».proof.Proof.Quantise
public import Idealize.ShloMosaic.Lib.IdealHost

@[expose] public section

set_option maxRecDepth 16384

noncomputable section

namespace Cert.Proof.ReferenceRows

open Cert.ReferenceIdeal Cert.Proof.ReferenceHost Cert.Proof.Signs Cert.Proof.Rotation Cert.Proof.Quantise
open Idealize.ShloMosaic hiding ix2 eq_ix2 ix1 ix3 eq_ix3 ix4 eq_ix4
open Idealize.ShloMosaic.ValueIdx
open scoped BigOperators

/-- Row `r` as a function of the column, zero past the last column. -/
def row (x : FVec Ideal S1x6144x9856 .bf16) (r : Fin 6144) (n : ℕ) : EReal := if h : n < 9856 then x (ix3 0 r ⟨n, h⟩) else 0

/-- The normalisation as a real number. -/
theorem norm_eq : Quantise.norm = ((11863283 * (2 : ℝ) ^ (-27 : ℤ) : ℝ) : EReal) := by
  unfold Quantise.norm
  simp [Ideal.ofBits, Ideal.ieee, -EReal.coe_mul]

/-- It is positive. -/
theorem norm_pos : 0 < Quantise.norm := by
  rw [norm_eq]
  exact EReal.coe_pos.2 (by positivity)

/-- It is finite. -/
theorem norm_ne_top : Quantise.norm ≠ ⊤ := by
  rw [norm_eq]
  exact EReal.coe_ne_top _

/-- The word of a sign denotes the sign. -/
theorem ofBits_sign (j i : ℕ) : Ideal.ofBits .f32 (if odd j i then 0xBF800000#32 else 0x3F800000#32) = sign j i := by
  unfold sign
  split
  · simp [Ideal.ofBits, Ideal.ieee, -EReal.coe_mul]
    norm_num
  · exact Ideal.ofBits_one_f32

/-- The host's product of every group of 128 columns with one matrix. -/
theorem groups (A : FVec Ideal S1x6144x77x128 .f32) (B : FVec Ideal S128x128 .f32) (b : Fin 1) (r : Fin 6144) (g : Fin 77) (i : Fin 128) :
    Host.dotGeneral dot_S1x6144x77x128_S128x128_S1x6144x77x128_3_0_012_1_n_n (some .fp32) A B (ix4 b r g i)
      = ∑ j : Fin 128, A (ix4 b r g j) * B (ix2 j i) := by
  show FloatOps.dotGeneral _ _ _ A B (ix4 b r g i) = _
  rw [Ideal.dotGeneral_apply, ← Equiv.sum_comp (contrEquiv1 dot_S1x6144x77x128_S128x128_S1x6144x77x128_3_0_012_1_n_n 128 rfl rfl).symm]
  refine Finset.sum_congr rfl fun j _ => ?_
  have hj := contrEquiv1_symm_val dot_S1x6144x77x128_S128x128_S1x6144x77x128_3_0_012_1_n_n 128 rfl rfl j
  refine congrArg₂ (· * ·) (congrArg A ?_) (congrArg B ?_)
  · funext a
    apply Fin.ext
    match a with
    | ⟨0, _⟩ => rfl
    | ⟨1, _⟩ => rfl
    | ⟨2, _⟩ => rfl
    | ⟨3, _⟩ => exact hj
  · funext a
    apply Fin.ext
    match a with
    | ⟨0, _⟩ => exact hj
    | ⟨1, _⟩ => rfl

variable (x : FVec Ideal S1x6144x9856 .bf16)

/-- The matrix's entries: the normalised signs. -/
theorem matrix_apply (j i : Fin 128) :
    mulf (fun i => FloatOps.ofBits (F := Ideal) .f32 (lit0 (S128x128.rowMajor i)))
      (broadcastInDim S128x128 ![] Gen.bcast_S_S128x128 (constant (F := Ideal) S_ .f32 0x3DB504F3#32)) (ix2 j i) = sign j.val i.val * Quantise.norm := by
  refine congrArg (· * Quantise.norm) (Eq.trans (congrArg (fun n => Ideal.ofBits .f32 (lit0t n)) ?_)
    ((congrArg (Ideal.ofBits .f32) (ReferenceTable.word j i)).trans (ofBits_sign j.val i.val)))
  refine (Shape.rowMajor_val_two (d := ![128, 128]) (ix2 j i)).trans ?_
  show j.val * 128 + i.val = _
  omega

/-- The rotated row: the signed sums, normalised. -/
theorem rotated_apply (b : Fin 1) (r : Fin 6144) (n : Fin 9856) : rotated x (ix3 b r n) = rot (row x r) n.val * Quantise.norm := by
  have hb := b.isLt
  have hn := n.isLt
  rw [← rot_mul _ _ norm_pos.le norm_ne_top]
  unfold rotated
  refine (shapeCast_apply _ _ (ix3 b r n) (ix4 b r (⟨n.val / 128, by omega⟩ : Fin 77) (⟨n.val % 128, by omega⟩ : Fin 128)) ?_).trans ?_
  · rw [Shape.rowMajor_val_three, Shape.rowMajor_val_four]
    show ((b.val * 6144 + r.val) * 77 + n.val / 128) * 128 + n.val % 128 = (b.val * 6144 + r.val) * 9856 + n.val
    omega
  refine (groups _ _ _ _ _ _).trans (Finset.sum_congr rfl fun j _ => congrArg₂ (· * ·) ?_ (matrix_apply j _))
  have hj : 128 * (n.val / 128) + j.val < 9856 := by omega
  unfold row
  rw [dif_pos hj]
  refine (shapeCast_apply _ _ (ix4 b r (⟨n.val / 128, by omega⟩ : Fin 77) j) (ix3 0 r ⟨_, hj⟩) ?_).trans rfl
  rw [Shape.rowMajor_val_three, Shape.rowMajor_val_four]
  show (0 * 6144 + r.val) * 9856 + (128 * (n.val / 128) + j.val) = ((b.val * 6144 + r.val) * 77 + n.val / 128) * 128 + j.val
  omega

/-- The index that a row and a column name. -/
theorem lift (h : Shape.Reduces S1x6144x9856 [2] S1x6144) (b : Fin 1) (r : Fin 6144) (n : Fin (S1x6144x9856.size 2)) :
    h.lift (ix2 b r) n = ix3 b r (n : Fin 9856) := by
  funext a
  apply Fin.ext
  refine (Shape.Reduces.lift_val h (ix2 b r) n a).trans ?_
  match a with
  | ⟨0, _⟩ => rfl
  | ⟨1, _⟩ => rfl
  | ⟨2, _⟩ => rfl

/-- The largest magnitude along a row, of any array. -/
theorem largest_eq (v : FVec Ideal S1x6144x9856 .f32) (b : Fin 1) (r : Fin 6144) (z : Fin 1) :
    largest v (ix3 b r z) = (Finset.univ : Finset (Fin 9856)).sup fun n => mag (v (ix3 b r n)) := by
  unfold largest
  refine Eq.trans (b := Host.reduce (FloatOps.maximumf (F := Ideal) (φ := .f32)) (Host.absf v) (constant (F := Ideal) S_ .f32 0xFF800000#32)
    Gen.reducesTo_S1x6144x9856_S1x6144_d2 Gen.h_S_ (ix2 b r)) ?_ ?_
  · refine broadcastInDim_apply _ _ _ (ix3 b r z) (ix2 b r) fun a => ?_
    match a with
    | ⟨0, _⟩ => show b.val = 0; omega
    | ⟨1, _⟩ => rfl
  have h : Shape.Reduces S1x6144x9856 [2] S1x6144 := by decide
  refine (Host.reduce_eq_fold_single _ _ _ _ h _ (ix2 b r)).trans ?_
  refine (congrArg (fun e => (Finset.univ : Finset (Fin 9856)).fold max e _) ofBits_neg_inf).trans ?_
  exact Finset.sup_congr rfl fun n _ => congrArg (fun i => mag (v i)) (lift h b r n)

/-- The row's largest magnitude. -/
theorem largest_apply (b : Fin 1) (r : Fin 6144) (z : Fin 1) : largest (rotated x) (ix3 b r z) = amax (row x r) * Quantise.norm := by
  rw [← amax_mul _ norm_pos, largest_eq]
  exact Finset.sup_congr rfl fun n _ => congrArg mag (rotated_apply x b r n)

/-- The scales, one by one. -/
theorem scaled_eq (a : FVec Ideal S1x6144x1 .f32) (y) : scaled a y = scaleOf (a y) := rfl

/-- The codes, one by one. -/
theorem clipped_eq (v : FVec Ideal S1x6144x9856 .f32) (s : FVec Ideal S1x6144x1 .f32) (b : Fin 1) (r : Fin 6144) (n : Fin 9856) :
    Ideal.fptosi 8 (clipped v s (ix3 b r n)) = codeOf (v (ix3 b r n)) (s (ix3 b r 0)) := by
  refine congrArg (codeOf (v (ix3 b r n))) ?_
  refine broadcastInDim_apply _ _ s (ix3 b r n) (ix3 b r 0) fun a => ?_
  match a with
  | ⟨0, _⟩ => show b.val = 0; omega
  | ⟨1, _⟩ => rfl
  | ⟨2, _⟩ => rfl

/-- The row's scale. -/
theorem scaled_apply (b : Fin 1) (r : Fin 6144) (z : Fin 1) : scaled (largest (rotated x)) (ix3 b r z) = rowScale (row x r) := by
  rw [scaled_eq, largest_apply]
  rfl

/-- The row's codes. -/
theorem clipped_apply (b : Fin 1) (r : Fin 6144) (n : Fin 9856) :
    Ideal.fptosi 8 (clipped (rotated x) (scaled (largest (rotated x))) (ix3 b r n)) = rowCode (row x r) n.val := by
  rw [clipped_eq, rotated_apply, scaled_apply]
  rfl

end Cert.Proof.ReferenceRows
-- ==== Proof.Outcome.lean ====
/- What both programs compute, entry by entry, in the arguments alone. -/
module

public import proofs.«01_k».proof.Proof.ReferenceRows

@[expose] public section

set_option maxRecDepth 16384

noncomputable section

namespace Cert.Proof.Outcome

open Cert.ReferenceIdeal Cert.Proof.Quantise Cert.Proof.ReferenceRows
open Idealize.ShloMosaic hiding ix2 eq_ix2 ix1 ix3 eq_ix3 ix4 eq_ix4
open Idealize.ShloMosaic.ValueIdx
open scoped BigOperators

variable (x : FVec Ideal S1x6144x9856 .bf16) (w : IVec S9856x12288 8) (s : FVec Ideal S12288 .f32)

/-- The quantised rows. -/
def codes : IVec S1x6144x9856 8 := fun y => rowCode (row x (y 1)) (y 2).val

/-- The rows' scales. -/
def scales : FVec Ideal S1x6144x1 .f32 := fun y => rowScale (row x (y 1))

/-- The integer product of the codes with the weights, rescaled by the row's and by the column's scale. -/
def output : FVec Ideal S1x6144x12288 .bf16 := fun y =>
  ((∑ k : Fin 9856, ((rowCode (row x (y 1)) k.val).toInt : ℝ) * ((w (ix2 k (y 2))).toInt : ℝ) : ℝ) : EReal)
    * rowScale (row x (y 1)) * s (ix1 (y 2))

end Cert.Proof.Outcome
-- ==== Proof.KernelOutcome.lean ====
/- The kernel's three results, from the arrays its two calls leave to functions of the arguments. -/
module

public import proofs.«01_k».proof.Proof.Product
public import proofs.«01_k».proof.Proof.Rows
public import proofs.«01_k».proof.Proof.Outcome

@[expose] public section

set_option maxRecDepth 16384

noncomputable section

namespace Cert.Proof.KernelOutcome

open Cert.KernelIdeal Cert.Proof.RealMatrix Cert.Proof.Chunks Cert.Proof.Quantise Cert.Proof.ReferenceRows
open Idealize.ShloMosaic hiding ix2 eq_ix2 ix1 ix3 eq_ix3 ix4 eq_ix4
open Idealize.ShloMosaic.ValueIdx
open scoped BigOperators

variable (x : FVec Ideal S1x6144x9856 .bf16) (w : IVec S9856x12288 8) (s : FVec Ideal S12288 .f32)

/-- The argument's rows, without its leading axis. -/
def rows : FVec Ideal S6144x9856 .bf16 := shapeCast S6144x9856 x Gen.shapeCasts_S1x6144x9856_S6144x9856

/-- They are the argument's rows. -/
theorem rowOf_rows (r : Fin 6144) : rowOf (M := 6144) (rows x) r = row x r := by
  funext n
  unfold rowOf row
  split
  · rename_i h
    refine shapeCast_apply x _ (ix2 r ⟨n, h⟩) (ix3 0 r ⟨n, h⟩) ?_
    rw [Shape.rowMajor_val_three, Shape.rowMajor_val_two]
    show (0 * 6144 + r.val) * 9856 + n = r.val * 9856 + n
    omega
  · rfl

/-- A leading axis of length one changes no entry. -/
theorem lead_apply {α : Type} {n : ℕ} (v : (⟨2, ![6144, n]⟩ : Shape).Idx → α) (h : Shape.ShapeCasts ⟨2, ![6144, n]⟩ ⟨3, ![1, 6144, n]⟩)
    (b : Fin 1) (r : Fin 6144) (k : Fin n) : shapeCast ⟨3, ![1, 6144, n]⟩ v h (ix3 b r k) = v (ix2 r k) := by
  obtain rfl : b = 0 := Subsingleton.elim _ _
  refine shapeCast_apply v h _ _ ?_
  rw [Shape.rowMajor_val_three, Shape.rowMajor_val_two]
  show r.val * n + k.val = (0 * 6144 + r.val) * n + k.val
  rw [Nat.zero_mul, Nat.zero_add]

/-- The codes, with their leading axis. -/
theorem codes_eq (h : Shape.ShapeCasts S6144x9856 S1x6144x9856) : shapeCast S1x6144x9856 (Rows.codes (rows x)) h = Outcome.codes x := by
  funext y
  rw [eq_ix3 y]
  refine (lead_apply _ _ _ _ _).trans ?_
  exact congrArg (fun f => rowCode f (y 2).val) (rowOf_rows x (y 1))

/-- The scales, with their leading axis. -/
theorem scales_eq (h : Shape.ShapeCasts S6144x1 S1x6144x1) : shapeCast S1x6144x1 (Rows.scales (rows x)) h = Outcome.scales x := by
  funext y
  rw [eq_ix3 y]
  refine (lead_apply _ _ _ _ _).trans ?_
  exact congrArg rowScale (rowOf_rows x (y 1))

/-- The column scales as a row. -/
theorem columns_apply (h : Shape.ShapeCasts S12288 S1x12288) (n : Fin 12288) : shapeCast S1x12288 s h (ix2 0 n) = s (ix1 n) := by
  refine shapeCast_apply s _ _ _ ?_
  rw [Shape.rowMajor_val_two, Shape.rowMajor_val_one]
  show n.val = 0 * 12288 + n.val
  omega

/-- The rescaled product, with its leading axis. -/
theorem output_eq (h : Shape.ShapeCasts S6144x12288 S1x6144x12288) (hs : Shape.ShapeCasts S12288 S1x12288) :
    shapeCast S1x6144x12288 (Product.product (Rows.codes (rows x)) w (Rows.scales (rows x)) (shapeCast S1x12288 s hs)) h = Outcome.output x w s := by
  funext y
  rw [eq_ix3 y]
  refine (lead_apply _ _ _ _ _).trans ?_
  have hr := rowOf_rows x (y 1)
  refine congrArg₂ (· * ·) (congrArg₂ (· * ·) (congrArg Real.toEReal (Finset.sum_congr rfl fun k _ => ?_)) (congrArg rowScale hr)) (columns_apply s hs (y 2))
  exact congrArg (fun f => ((rowCode f k.val).toInt : ℝ) * ((w (ix2 k (y 2))).toInt : ℝ)) hr

end Cert.Proof.KernelOutcome
-- ==== Proof.KernelValue.lean ====
/- The kernel's run: it ends with the three results as functions of the arguments. -/
module

public import proofs.«01_k».proof.Proof.Run
public import proofs.«01_k».proof.Proof.Table
public import proofs.«01_k».proof.Proof.KernelHost
public import proofs.«01_k».proof.Proof.KernelOutcome

@[expose] public section

set_option maxRecDepth 16384

noncomputable section

namespace Cert.Proof.KernelValue

open Cert.KernelIdeal Cert.KernelIdeal.Gen Cert.Proof.Chunks Cert.Proof.KernelHost Cert.Proof.KernelOutcome
open Idealize.ShloMosaic Idealize.ShloMosaic.TcCoe Idealize.SL.Sem

variable (m : (ℓ : Loc nD τ sig) → Buf (Elt Ideal) ℓ) (ρ : Dev nD → PrngReg) (c : Dev nD)

/-- The first call finds the argument's rows, -/
theorem rows_in : V1 m ρ c main_v0 = rows (m ((c : Thread nD τ).loc main_arg0)) := line_rows (W0 m ρ c)

/-- and the Hadamard table. -/
theorem table_in : IsTable (V1 m ρ c main_cst) :=
  Eq.mpr (congrArg IsTable (line_table (W0 m ρ c))) Table.table

/-- The codes the first call leaves. -/
theorem codes_out : W2 m ρ c (Proc.devRef .tc main_v1_0) = Rows.codes (rows (m ((c : Thread nD τ).loc main_arg0))) :=
  (W2_arr m ρ c 2).trans ((Rows.final_codes (V1 m ρ) c (table_in m ρ c)).trans (congrArg Rows.codes (rows_in m ρ c)))

/-- The scales the first call leaves. -/
theorem scales_out : W2 m ρ c (Proc.devRef .tc main_v1_1) = Rows.scales (rows (m ((c : Thread nD τ).loc main_arg0))) :=
  (W2_arr m ρ c 3).trans ((Rows.final_scales (V1 m ρ) c (table_in m ρ c)).trans (congrArg Rows.scales (rows_in m ρ c)))

/-- The second call finds the codes, -/
theorem codes_in : V3 m ρ c main_v1_0 = Rows.codes (rows (m ((c : Thread nD τ).loc main_arg0))) :=
  (W3_of m ρ c main_v1_0 (by decide)).trans (codes_out m ρ c)

/-- the scales, -/
theorem scales_in : V3 m ρ c main_v1_1 = Rows.scales (rows (m ((c : Thread nD τ).loc main_arg0))) :=
  (W3_of m ρ c main_v1_1 (by decide)).trans (scales_out m ρ c)

/-- the weights, -/
theorem weights_in : V3 m ρ c main_arg1 = m ((c : Thread nD τ).loc main_arg1) := W3_args m ρ c main_arg1 (by decide)

/-- and the column scales as a row. -/
theorem columns_in : V3 m ρ c main_v2
    = (shapeCast S1x12288 (m ((c : Thread nD τ).loc main_arg2)) shapeCasts_S12288_S1x12288 : FVec Ideal S1x12288 .f32) :=
  (line_columns (W2 m ρ c)).trans
    (congrArg (fun v : FVec Ideal S12288 .f32 => (shapeCast S1x12288 v shapeCasts_S12288_S1x12288 : FVec Ideal S1x12288 .f32)) (W2_args m ρ c main_arg2 (by decide)))

/-- The product the second call leaves. -/
theorem product_out : W4 m ρ c (Proc.devRef .tc main_v3)
    = Product.product (Rows.codes (rows (m ((c : Thread nD τ).loc main_arg0)))) (m ((c : Thread nD τ).loc main_arg1))
        (Rows.scales (rows (m ((c : Thread nD τ).loc main_arg0))))
        (shapeCast S1x12288 (m ((c : Thread nD τ).loc main_arg2)) shapeCasts_S12288_S1x12288) := by
  refine (W4_arr m ρ c 4).trans ((Product.final (V3 m ρ) c).trans ?_)
  rw [codes_in, scales_in, weights_in, columns_in]

/-- The output at the end. -/
theorem output : W5 m ρ c (Proc.devRef .tc main_v4)
    = Outcome.output (m ((c : Thread nD τ).loc main_arg0)) (m ((c : Thread nD τ).loc main_arg1)) (m ((c : Thread nD τ).loc main_arg2)) := by
  refine (line_output (W4 m ρ c)).trans ?_
  rw [product_out]
  exact output_eq _ _ _ _ _

/-- The codes at the end. -/
theorem codes : W5 m ρ c (Proc.devRef .tc main_v5) = Outcome.codes (m ((c : Thread nD τ).loc main_arg0)) := by
  refine (line_codes (W4 m ρ c)).trans ?_
  rw [W4_of m ρ c main_v1_0 (by decide), W3_of m ρ c main_v1_0 (by decide), codes_out]
  exact codes_eq _ _

/-- The scales at the end. -/
theorem scales : W5 m ρ c (Proc.devRef .tc main_v6) = Outcome.scales (m ((c : Thread nD τ).loc main_arg0)) := by
  refine (line_scales (W4 m ρ c)).trans ?_
  rw [W4_of m ρ c main_v1_1 (by decide), W3_of m ρ c main_v1_1 (by decide), scales_out]
  exact scales_eq _ _

/-- The run of the whole program. -/
theorem run : θ_run defs (onTc (τ := τ) (main (F := Ideal))) ⟨m, fun _ => 0, ρ⟩ fun r => ∀ c : Dev nD,
      r.2.mem ((c.tc : Thread nD τ).loc main_v4)
        = Outcome.output (m ((c : Thread nD τ).loc main_arg0)) (m ((c : Thread nD τ).loc main_arg1)) (m ((c : Thread nD τ).loc main_arg2))
      ∧ r.2.mem ((c.tc : Thread nD τ).loc main_v5) = Outcome.codes (m ((c : Thread nD τ).loc main_arg0))
      ∧ r.2.mem ((c.tc : Thread nD τ).loc main_v6) = Outcome.scales (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (output m ρ c), (h c).2.1.trans (codes m ρ c), (h c).2.2.1.trans (scales m ρ c), (h c).2.2.2⟩)
    (Run.run m ρ)

end Cert.Proof.KernelValue
-- ==== Proof.ReferenceBody.lean ====
/- The reference's kernel body: its rescaled integer product, entry by entry. -/
module

public import proofs.«01_k».proof.Proof.Gen.ReferenceIdeal.Value
public import proofs.«01_k».proof.Proof.RealMatrix
public import Idealize.ShloMosaic.Lib.Pipeline.ValueKit

@[expose] public section

set_option maxRecDepth 16384

noncomputable section

namespace Cert.Proof.ReferenceBody

open Cert.ReferenceIdeal Cert.ReferenceIdeal.Gen Cert.Proof.RealMatrix
open Idealize.ShloMosaic hiding ix2 eq_ix2 ix1 ix3 eq_ix3 ix4 eq_ix4
open Idealize.ShloMosaic.ValueIdx
open scoped BigOperators

/-- The body's matrix product, as a sum over the columns of the left factor. -/
theorem matmul_apply (A : FVec Ideal S1x6144x9856 .f32) (B : FVec Ideal S9856x12288 .f32) (C : FVec Ideal S1x6144x12288 .f32)
    (b : Fin 1) (r : Fin 6144) (n : Fin 12288) :
    matmul dot_S1x6144x9856_S9856x12288_S1x6144x12288_2_0_01_1_n_n (some .fp32) A B C (ix3 b r n)
      = C (ix3 b r n) + ∑ k : Fin 9856, A (ix3 b r k) * B (ix2 k n) := by
  show FloatOps.matmul _ _ A B C (ix3 b r n) = _
  rw [Ideal.matmul_apply, ← Equiv.sum_comp (contrEquiv1 dot_S1x6144x9856_S9856x12288_S1x6144x12288_2_0_01_1_n_n 9856 rfl rfl).symm]
  refine congrArg (C (ix3 b r n) + ·) (Finset.sum_congr rfl fun k _ => ?_)
  have hk := contrEquiv1_symm_val dot_S1x6144x9856_S9856x12288_S1x6144x12288_2_0_01_1_n_n 9856 rfl rfl k
  refine congrArg₂ (· * ·) (congrArg A ?_) (congrArg B ?_)
  · funext a
    apply Fin.ext
    match a with
    | ⟨0, _⟩ => rfl
    | ⟨1, _⟩ => rfl
    | ⟨2, _⟩ => exact hk
  · funext a
    apply Fin.ext
    match a with
    | ⟨0, _⟩ => exact hk
    | ⟨1, _⟩ => rfl

/-- The integer product of one row of codes and one column of weights. -/
def total (q : IVec S1x6144x9856 8) (w : IVec S9856x12288 8) (r : Fin 6144) (n : Fin 12288) : ℝ :=
  ∑ k : Fin 9856, ((q (ix3 0 r k)).toInt : ℝ) * ((w (ix2 k n)).toInt : ℝ)

/-- Converted to floats and multiplied as matrices, the integers give that product. -/
theorem total_apply (q : IVec S1x6144x9856 8) (w : IVec S9856x12288 8) (b : Fin 1) (r : Fin 6144) (n : Fin 12288) :
    matmul dot_S1x6144x9856_S9856x12288_S1x6144x12288_2_0_01_1_n_n (some .fp32) (sitofp (F := Ideal) .f32 q) (sitofp (F := Ideal) .f32 w)
      (constant (F := Ideal) S1x6144x12288 .f32 0x00000000#32) (ix3 b r n) = ((total q w r n : ℝ) : EReal) := by
  obtain rfl : b = 0 := Subsingleton.elim _ _
  refine (matmul_apply _ _ _ _ _ _).trans ?_
  unfold total
  rw [coe_sum]
  refine (congrArg (· + _) Ideal.ofBits_zero_f32).trans ((zero_add _).trans (Finset.sum_congr rfl fun k _ => ?_))
  exact (EReal.coe_mul _ _).symm

/-- The codes stored are the converted quotients. -/
theorem pay1_eq (v : FVec Ideal S1x6144x9856 .f32) : k0_pay1 (F := Ideal) v = fun y => Ideal.fptosi 8 (v y) := by
  funext y
  refine (congrArg (Ideal.fptosi 8) (shapeCast_apply v _ y y rfl)).trans rfl

/-- A column of row scales, copied along each row. -/
theorem rows_apply (v : FVec Ideal S1x6144x1 .f32) (b : Fin 1) (r : Fin 6144) (n : Fin 12288) :
    broadcastTo S1x6144x12288 (shapeCast S1x6144x1 v shapeCasts_S1x6144x1_S1x6144x1) broadcasts_S1x6144x1_S1x6144x12288 (ix3 b r n) = v (ix3 0 r 0) := by
  refine (broadcastTo_apply _ _ (ix3 b r n) (ix3 0 r 0) fun a => ?_).trans (shapeCast_apply v _ _ _ rfl)
  match a with
  | ⟨0, _⟩ => rfl
  | ⟨1, _⟩ => rfl
  | ⟨2, _⟩ => rfl

/-- A row of column scales, copied down each column. -/
theorem columns_apply (v : FVec Ideal S12288 .f32) (b : Fin 1) (r : Fin 6144) (n : Fin 12288) :
    broadcastTo S1x6144x12288 (shapeCast S1x1x12288 v shapeCasts_S12288_S1x1x12288) broadcasts_S1x1x12288_S1x6144x12288 (ix3 b r n) = v (ix1 n) := by
  refine (broadcastTo_apply _ _ (ix3 b r n) (ix3 0 0 n) fun a => ?_).trans (shapeCast_apply v _ _ _ ?_)
  · match a with
    | ⟨0, _⟩ => rfl
    | ⟨1, _⟩ => rfl
    | ⟨2, _⟩ => rfl
  · rw [Shape.rowMajor_val_three, Shape.rowMajor_val_one]
    show n.val = (0 * 1 + 0) * 12288 + n.val
    omega

/-- Rescaling, entry by entry. -/
theorem rescaled_apply (t u v : FVec Ideal S1x6144x12288 .f32) (y : S1x6144x12288.Idx) :
    (truncf .bf16 (mulf (mulf t u) v) : FVec Ideal S1x6144x12288 .bf16) y = t y * u y * v y := rfl

/-- The body's output: the integer product, rescaled by its row's and its column's scale. -/
theorem pay2_apply (v : FVec Ideal S1x6144x9856 .f32) (w : IVec S9856x12288 8) (xs : FVec Ideal S1x6144x1 .f32) (ws : FVec Ideal S12288 .f32)
    (b : Fin 1) (r : Fin 6144) (n : Fin 12288) :
    k0_pay2 (F := Ideal) v w xs ws (ix3 b r n)
      = ((total (fun y => Ideal.fptosi 8 (v y)) w r n : ℝ) : EReal) * xs (ix3 0 r 0) * ws (ix1 n) := by
  rw [← pay1_eq]
  unfold k0_pay2
  refine (rescaled_apply _ _ _ _).trans ?_
  rw [total_apply, rows_apply, columns_apply]

end Cert.Proof.ReferenceBody
-- ==== Proof.ReferenceWhole.lean ====
/- The reference's kernel call takes every array whole. -/
module

public import proofs.«01_k».proof.Proof.ReferenceBody

@[expose] public section

set_option maxRecDepth 16384

noncomputable section

namespace Cert.Proof.ReferenceWhole

open Cert.ReferenceIdeal Cert.ReferenceIdeal.Gen Cert.Proof.ReferenceBody
open Idealize.ShloMosaic Idealize.ShloMosaic.TcCoe Idealize.SL.Sem

/-- The quotients are taken whole. -/
theorem index0 : ∀ t : Fin cfg0.N, win0_0.index t = ![0, 0, 0] := (by decide +kernel : ∀ t : Fin grid0.N, _)
/-- The weights are taken whole. -/
theorem index1 : ∀ t : Fin cfg0.N, win0_1.index t = ![0, 0] := (by decide +kernel : ∀ t : Fin grid0.N, _)
/-- The row scales are taken whole. -/
theorem index2 : ∀ t : Fin cfg0.N, win0_2.index t = ![0, 0, 0] := (by decide +kernel : ∀ t : Fin grid0.N, _)
/-- The column scales are taken whole. -/
theorem index3 : ∀ t : Fin cfg0.N, win0_3.index t = ![0] := (by decide +kernel : ∀ t : Fin grid0.N, _)
/-- The output are taken whole. -/
theorem index4 : ∀ t : Fin cfg0.N, win0_4.index t = ![0, 0, 0] := (by decide +kernel : ∀ t : Fin grid0.N, _)
/-- The codes are taken whole. -/
theorem index5 : ∀ t : Fin cfg0.N, win0_5.index t = ![0, 0, 0] := (by decide +kernel : ∀ t : Fin grid0.N, _)

/-- The block of the quotients reads their whole array. -/
theorem read0 (X : FVec Ideal S1x6144x9856 .f32) (t : Fin cfg0.N) : ((cfg0.win 0).blk t).view.read (Elt Ideal) X = X := by
  funext y
  blk_simp [index0]
  refine congrArg X ?_
  blk_ext [index0]

/-- The block of the weights reads their whole array. -/
theorem read1 (X : IVec S9856x12288 8) (t : Fin cfg0.N) : ((cfg0.win 1).blk t).view.read (Elt Ideal) X = X := by
  funext y
  blk_simp [index1]
  refine congrArg X ?_
  blk_ext [index1]

/-- The block of the row scales reads their whole array. -/
theorem read2 (X : FVec Ideal S1x6144x1 .f32) (t : Fin cfg0.N) : ((cfg0.win 2).blk t).view.read (Elt Ideal) X = X := by
  funext y
  blk_simp [index2]
  refine congrArg X ?_
  blk_ext [index2]

/-- The block of the column scales reads their whole array. -/
theorem read3 (X : FVec Ideal S12288 .f32) (t : Fin cfg0.N) : ((cfg0.win 3).blk t).view.read (Elt Ideal) X = X := by
  funext y
  blk_simp [index3]
  refine congrArg X ?_
  blk_ext [index3]

variable (m : (ℓ : Loc nD τ sig) → Buf (Elt Ideal) ℓ) (c : Dev nD)

/-- The output's array after the call is what its one grid point leaves. -/
theorem write4 (X : FVec Ideal S1x6144x12288 .bf16) (h : ∀ t, (dats m 0 c).after 4 t = X) : (dats m 0 c).arrAt 4 cfg0.N = X := by
  refine (dats m 0 c).arrAt_eq_of_covers 4 _ (by decide +kernel) fun t hf y => ?_
  rw [h]
  blk_simp [index4]
  refine congrArg X ?_
  blk_ext [index4]

/-- The codes's array after the call is what its one grid point leaves. -/
theorem write5 (X : IVec S1x6144x9856 8) (h : ∀ t, (dats m 0 c).after 5 t = X) : (dats m 0 c).arrAt 5 cfg0.N = X := by
  refine (dats m 0 c).arrAt_eq_of_covers 5 _ (by decide +kernel) fun t hf y => ?_
  rw [h]
  blk_simp [index5]
  refine congrArg X ?_
  blk_ext [index5]

end Cert.Proof.ReferenceWhole
-- ==== Proof.ReferenceRegion.lean ====
/- The reference's two computed arrays after its kernel call. -/
module

public import proofs.«01_k».proof.Proof.ReferenceWhole

@[expose] public section

set_option maxRecDepth 16384

noncomputable section

namespace Cert.Proof.ReferenceRegion

open Cert.ReferenceIdeal Cert.ReferenceIdeal.Gen Cert.Proof.ReferenceBody Cert.Proof.ReferenceWhole
open Idealize.ShloMosaic Idealize.ShloMosaic.TcCoe Idealize.SL.Sem

/-- One zero offset. -/
theorem zeros1 : (![0] : Fin 1 → ℕ) = fun _ => 0 := by decide
/-- Two zero offsets. -/
theorem zeros2 : (![0, 0] : Fin 2 → ℕ) = fun _ => 0 := by decide
/-- Three zero offsets. -/
theorem zeros3 : (![0, 0, 0] : Fin 3 → ℕ) = fun _ => 0 := by decide

/-- A load through the whole of `S1x6144x9856` reads it. -/
theorem load0 (x : Vec Ideal S1x6144x9856 .f32) : View.ld (Val := Elt Ideal) x r0_0 = x :=
  View.ld_unit_zero (Val := Elt Ideal) (S := S1x6144x9856) zeros3 _ x
/-- A load through the whole of `S9856x12288` reads it. -/
theorem load1 (x : Vec Ideal S9856x12288 .i8) : View.ld (Val := Elt Ideal) x r0_1 = x :=
  View.ld_unit_zero (Val := Elt Ideal) (S := S9856x12288) zeros2 _ x
/-- A load through the whole of `S1x6144x1` reads it. -/
theorem load2 (x : Vec Ideal S1x6144x1 .f32) : View.ld (Val := Elt Ideal) x r0_2 = x :=
  View.ld_unit_zero (Val := Elt Ideal) (S := S1x6144x1) zeros3 _ x
/-- A load through the whole of `S12288` reads it. -/
theorem load3 (x : Vec Ideal S12288 .f32) : View.ld (Val := Elt Ideal) x r0_3 = x :=
  View.ld_unit_zero (Val := Elt Ideal) (S := S12288) zeros1 _ x

/-- Equal arguments give equal values, for four arguments. -/
theorem congrArg₄ {α β γ δ ε : Type} (f : α → β → γ → δ → ε) {a a' b b' d d' e e'} (ha : a = a') (hb : b = b') (hd : d = d') (he : e = e') :
    f a b d e = f a' b' d' e' := by rw [ha, hb, hd, he]

/-- The stored output, for any four blocks. -/
theorem out4 (x0 : Vec Ideal S1x6144x9856 .f32) (x1 : Vec Ideal S9856x12288 .i8) (x2 : Vec Ideal S1x6144x1 .f32) (x3 : Vec Ideal S12288 .f32) :
    out0_4 (F := Ideal) x0 x1 x2 x3 = k0_pay2 (F := Ideal) x0 x1 x2 x3 := by
  unfold out0_4
  rw [View.canon_cons_unit_lit (S := S1x6144x12288) _ _ _ (by decide)]
  exact congrArg₄ (k0_pay2 (F := Ideal)) (load0 x0) (load1 x1)
    (load2 x2) (load3 x3)

/-- The stored codes, for any four blocks. -/
theorem out5 (x0 : Vec Ideal S1x6144x9856 .f32) (x1 : Vec Ideal S9856x12288 .i8) (x2 : Vec Ideal S1x6144x1 .f32) (x3 : Vec Ideal S12288 .f32) :
    out0_5 (F := Ideal) x0 x1 x2 x3 = k0_pay1 (F := Ideal) x0 := by
  unfold out0_5
  rw [View.canon_cons_unit_lit (S := S1x6144x9856) _ _ _ (by decide)]
  exact congrArg (k0_pay1 (F := Ideal)) (load0 x0)

variable (m : (ℓ : Loc nD τ sig) → Buf (Elt Ideal) ℓ) (c : Dev nD)

/-- The output's array after the call. -/
theorem final4 : (dats m 0 c).arrAt 4 cfg0.N
    = k0_pay2 (F := Ideal) (V m c main_v17) (V m c main_arg1) (V m c main_v13) (V m c main_arg2) := by
  refine write4 m c _ fun t => ?_
  rw [after0_4]
  refine (out4 _ _ _ _).trans ?_
  unfold iblk
  exact congrArg₄ (k0_pay2 (F := Ideal)) (read0 _ t) (read1 _ t) (read2 _ t) (read3 _ t)

/-- The codes' array after the call. -/
theorem final5 : (dats m 0 c).arrAt 5 cfg0.N = fun y => Ideal.fptosi 8 (V m c main_v17 y) := by
  refine Eq.trans ?_ (pay1_eq (V m c main_v17))
  refine write5 m c _ fun t => ?_
  rw [after0_5]
  refine (out5 _ _ _ _).trans ?_
  unfold iblk
  exact congrArg (k0_pay1 (F := Ideal)) (read0 _ t)

end Cert.Proof.ReferenceRegion
-- ==== Proof.ReferenceValue.lean ====
/- The reference's run: it ends with the three results as functions of the arguments. -/
module

public import proofs.«01_k».proof.Proof.ReferenceRegion
public import proofs.«01_k».proof.Proof.Outcome

@[expose] public section

set_option maxRecDepth 16384

noncomputable section

namespace Cert.Proof.ReferenceValue

open Cert.ReferenceIdeal Cert.ReferenceIdeal.Gen Cert.Proof.ReferenceHost Cert.Proof.ReferenceBody Cert.Proof.ReferenceRows Cert.Proof.Quantise
open Idealize.ShloMosaic hiding ix2 eq_ix2 ix1 ix3 eq_ix3 ix4 eq_ix4
open Idealize.ShloMosaic.TcCoe Idealize.ShloMosaic.ValueIdx Idealize.SL.Sem
open scoped BigOperators

section Arrays

variable (x : FVec Ideal S1x6144x9856 .bf16) (w : IVec S9856x12288 8) (s : FVec Ideal S12288 .f32)

/-- The host lines' scales. -/
theorem scales_eq : scaled (largest (rotated x)) = Outcome.scales x := by
  funext y
  rw [eq_ix3 y]
  exact scaled_apply x _ _ _

/-- The host lines' quotients, converted. -/
theorem codes_eq : (fun y => Ideal.fptosi 8 (clipped (rotated x) (scaled (largest (rotated x))) y)) = Outcome.codes x := by
  funext y
  rw [eq_ix3 y]
  exact clipped_apply x _ _ _

/-- The call's output on the host lines' results. -/
theorem output_eq : k0_pay2 (F := Ideal) (clipped (rotated x) (scaled (largest (rotated x)))) w (scaled (largest (rotated x))) s = Outcome.output x w s := by
  funext y
  rw [eq_ix3 y]
  refine (pay2_apply _ _ _ _ _ _ _).trans ?_
  rw [codes_eq, scales_eq]
  rfl

end Arrays

variable (m : (ℓ : Loc nD τ sig) → Buf (Elt Ideal) ℓ) (ρ : Dev nD → PrngReg)

/-- The output array after the call. -/
theorem output (c : Dev nD) : (dats m 0 c).arrAt 4 cfg0.N
    = Outcome.output (m ((c : Thread nD τ).loc main_arg0)) (m ((c : Thread nD τ).loc main_arg1)) (m ((c : Thread nD τ).loc main_arg2)) := by
  rw [ReferenceRegion.final4, quotients, ReferenceHost.scales, V_main_arg1, V_main_arg2]
  exact output_eq _ _ _

/-- The codes' array after the call. -/
theorem codes (c : Dev nD) : (dats m 0 c).arrAt 5 cfg0.N = Outcome.codes (m ((c : Thread nD τ).loc main_arg0)) := by
  rw [ReferenceRegion.final5, quotients]
  exact codes_eq _

/-- The scales' array, which the call leaves as it found it. -/
theorem scales (r : PUnit × MemSt nD τ sig (Elt Ideal)) (h : Pipeline.FramePost cfgs (dats m) 0 (V m) r) (c : Dev nD) :
    r.2.mem ((c : Thread nD τ).loc main_v13) = Outcome.scales (m ((c : Thread nD τ).loc main_arg0)) :=
  ((h c).1 2).trans (((dats m 0 c).arrAt_in 2 rfl _).trans ((A_eq m c 2).trans ((ReferenceHost.scales m c).trans (scales_eq _))))

/-- The run of the whole program. -/
theorem run : θ_run defs (onTc (τ := τ) (main (F := Ideal))) ⟨m, fun _ => 0, ρ⟩ fun r => ∀ c : Dev nD,
      r.2.mem ((c : Thread nD τ).loc main_v18_0)
        = Outcome.output (m ((c : Thread nD τ).loc main_arg0)) (m ((c : Thread nD τ).loc main_arg1)) (m ((c : Thread nD τ).loc main_arg2))
      ∧ r.2.mem ((c : Thread nD τ).loc main_v18_1) = Outcome.codes (m ((c : Thread nD τ).loc main_arg0))
      ∧ r.2.mem ((c : Thread nD τ).loc main_v13) = Outcome.scales (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(Value.post4 m r h c).trans (output m c), (Value.post5 m r h c).trans (codes m c), scales m r h c,
      Value.kept_main_arg0 m r h c, Value.kept_main_arg1 m r h c, Value.kept_main_arg2 m r h c⟩)
    (run_main m ρ)

end Cert.Proof.ReferenceValue
-- ==== Proof.lean ====
/- The certificate of the rotated int8 linear layer: the kernel as it runs and at the ideal instance ends with every
   semaphore at zero, and at the ideal instance its three results are the reference's. -/
module

public import proofs.«01_k».proof.Defs
public import proofs.«01_k».proof.Proof.Gen.Kernel.Frame
public import proofs.«01_k».proof.Proof.KernelValue
public import proofs.«01_k».proof.Proof.ReferenceValue

@[expose] public section

noncomputable section

namespace Cert.Proof

open Idealize.ShloMosaic Idealize.SL.Sem

/-- Both programs end, at the same three results: from memories that agree on the arguments, the reference's are the
    kernel's, as each is one function of the arguments. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, _, KernelValue.run m g, ?_⟩
  refine (θ_run _ _ _).mono (fun r h c => ?_) (ReferenceValue.run m' g')
  obtain ⟨h0, h1, h2, hk⟩ := h c
  obtain ⟨e0, e1, e2⟩ := hargs c
  exact ⟨h0.trans (by rw [e0, e1, e2]), h1.trans (by rw [e0]), h2.trans (by rw [e0]), hk⟩

/-- Everything the certificate claims. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
